-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_fit [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fit [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_lengths_fit [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lengths_fit [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_lengths_fit [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel)
    ∧ quiescent_KernelIdeal (hKernelIdeal := hKernelIdeal)
    ∧ quiescent_KernelIdeal_pre_lengths_fit (hKernelIdeal := hKernelIdeal) (hPre_lengths_fit := hPre_lengths_fit)
    ∧ quiescent_ReferenceIdeal (hReferenceIdeal := hReferenceIdeal)
    ∧ quiescent_ReferenceIdeal_pre_lengths_fit (hReferenceIdeal := hReferenceIdeal) (hPre_lengths_fit := hPre_lengths_fit)
    ∧ preserves_Kernel_KernelIdeal
    ∧ algebraic_KernelIdeal_ReferenceIdeal_pre_lengths_fit (hKernelIdeal := hKernelIdeal) (hReferenceIdeal := hReferenceIdeal) (hPre_lengths_fit := hPre_lengths_fit)
-- ==== Pre_lengths_fit.lean ====
abbrev S16x8192x2560 : Shape := ⟨3, ![16, 8192, 2560]⟩
abbrev S16x64x2560 : Shape := ⟨3, ![16, 64, 2560]⟩
abbrev S16x8192x2816 : Shape := ⟨3, ![16, 8192, 2816]⟩
abbrev S16x64x2816 : Shape := ⟨3, ![16, 64, 2816]⟩
abbrev S2560x2816 : Shape := ⟨2, ![2560, 2816]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x8192x2560 .fp8e4m3) (main_arg1 : FVec F S16x64x2560 .f32) (main_arg2 : FVec F S16x8192x2816 .fp8e5m2) (main_arg3 : FVec F S16x64x2816 .f32) (main_arg4 : FVec F S2560x2816 .f32) (main_arg5 : IVec S16 32) : IVec S16 1 :=
  let main_c : IVec S_ 32 := constantI S_ 32 2147482624#32
  let main_v0 : IVec S16 32 := broadcastInDim S16 ![] bcast_S_S16 main_c
  let main_v1 : IVec S16 1 := cmpi .sle main_arg5 main_v0
  main_v1
-- ==== Kernel.lean ====
abbrev S16x8192x2560 : Shape := ⟨3, ![16, 8192, 2560]⟩
abbrev S16x64x2560 : Shape := ⟨3, ![16, 64, 2560]⟩
abbrev S16x8192x2816 : Shape := ⟨3, ![16, 8192, 2816]⟩
abbrev S16x64x2816 : Shape := ⟨3, ![16, 64, 2816]⟩
abbrev S2560x2816 : Shape := ⟨2, ![2560, 2816]⟩
abbrev S16 : Shape := ⟨1, ![16]⟩
abbrev S1280x2816 : Shape := ⟨2, ![1280, 2816]⟩
abbrev S1x1024x1280 : Shape := ⟨3, ![1, 1024, 1280]⟩
abbrev S1 : Shape := ⟨1, ![1]⟩
abbrev S1x8x1280 : Shape := ⟨3, ![1, 8, 1280]⟩
abbrev S1x1024x2816 : Shape := ⟨3, ![1, 1024, 2816]⟩
abbrev S1x8x2816 : Shape := ⟨3, ![1, 8, 2816]⟩
abbrev S1280x1024 : Shape := ⟨2, ![1280, 1024]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S256x128 : Shape := ⟨2, ![256, 128]⟩
abbrev S1024x256 : Shape := ⟨2, ![1024, 256]⟩
abbrev S1280x256 : Shape := ⟨2, ![1280, 256]⟩

abbrev nBuf : Space → Nat
  | .hbm => 6
  | .vmem => 11
  | .smem => 1
  | _ => 0

abbrev bufTy : (tb : Table) → Fin (tcTables nBuf tb) → BufTy
  | .hbm, ⟨0, _⟩ => ⟨S16x8192x2560, .fp8e4m3⟩
  | .hbm, ⟨1, _⟩ => ⟨S16x64x2560, .f32⟩
  | .hbm, ⟨2, _⟩ => ⟨S16x8192x2816, .fp8e5m2⟩
  | .hbm, ⟨3, _⟩ => ⟨S16x64x2816, .f32⟩
  | .hbm, ⟨4, _⟩ => ⟨S2560x2816, .f32⟩
  | .hbm, ⟨5, _⟩ => ⟨S2560x2816, .f32⟩
  | .local _ .vmem, ⟨0, _⟩ => ⟨S1280x2816, .f32⟩
  | .local _ .vmem, ⟨1, _⟩ => ⟨S1x1024x1280, .fp8e4m3⟩
  | .local _ .vmem, ⟨2, _⟩ => ⟨S1x1024x1280, .fp8e4m3⟩
  | .local _ .vmem, ⟨3, _⟩ => ⟨S1x8x1280, .f32⟩
  | .local _ .vmem, ⟨4, _⟩ => ⟨S1x8x1280, .f32⟩
  | .local _ .vmem, ⟨5, _⟩ => ⟨S1x1024x2816, .fp8e5m2⟩
  | .local _ .vmem, ⟨6, _⟩ => ⟨S1x1024x2816, .fp8e5m2⟩
  | .local _ .vmem, ⟨7, _⟩ => ⟨S1x8x2816, .f32⟩
  | .local _ .vmem, ⟨8, _⟩ => ⟨S1x8x2816, .f32⟩
  | .local _ .vmem, ⟨9, _⟩ => ⟨S1280x2816, .f32⟩
  | .local _ .vmem, ⟨10, _⟩ => ⟨S1280x1024, .bf16⟩
  | .local _ .smem, ⟨0, _⟩ => ⟨S16, .i32⟩
  | _, _ => ⟨S16x8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![2, 128], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let v17 : Index := Scalar.indexCast v16
  ![v17.toNat]
def k0_cond1 (i : grid0.Coords) : BitVec 1 :=
  let arg1 : BitVec 32 := BitVec.ofNat 32 (i 1).val
  let c0_i32_5 : BitVec 32 := 0#32
  let v22 : BitVec 1 := Scalar.cmpi .eq arg1 c0_i32_5
  let v23 : BitVec 32 := Scalar.extui v22
  let c0_i32_6 : BitVec 32 := 0#32
  let v24 : BitVec 1 := Scalar.cmpi .ne v23 c0_i32_6
  v24

def k0_cond2 (i : grid0.Coords) (v21 : BitVec 32) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let v0 : BitVec 32 := Scalar.divsi arg1 c8_i32
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let v18 : BitVec 32 := Scalar.subi arg1 v17
  let c1024_i32 : BitVec 32 := 1024#32
  let v19 : BitVec 32 := Scalar.muli v18 c1024_i32
  let v25 : BitVec 1 := Scalar.cmpi .slt v19 v21
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S16) ![v17.toNat] S1.size (k0_off1_inb i)) numel1_S1
  let c1024_i32 : BitVec 32 := 1024#32
  let v19 : BitVec 32 := Scalar.addi v18 c1024_i32
  let c1_i32_4 : BitVec 32 := 1#32
  let v20 : BitVec 32 := Scalar.subi v19 c1_i32_4
  let c1024_i32_5 : BitVec 32 := 1024#32
  let v21 : BitVec 32 := Scalar.divsi v20 c1024_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c1024_i32_5 c0_i32_8
  let v28 : BitVec 32 := Scalar.extui v27
  let c0_i32_9 : BitVec 32 := 0#32
  let v29 : BitVec 1 := Scalar.cmpi .slt c1024_i32_5 c0_i32_9
  let v30 : BitVec 32 := Scalar.extui v29
  let v31 : BitVec 32 := Scalar.subi v28 v30
  let v32 : BitVec 1 := Scalar.cmpi .ne v26 v31
  let v33 : BitVec 32 := Scalar.remsi v20 c1024_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let c8_i32_14 : BitVec 32 := 8#32
  let v40 : BitVec 32 := Scalar.muli v16 c8_i32_14
  let v41 : BitVec 32 := Scalar.subi arg1 v40
  let v42 : BitVec 32 := Scalar.minsi v41 v39
  let c0_i32_15 : BitVec 32 := 0#32
  ![v16.toNat, v42.toNat, arg0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S16) ![v17.toNat] S1.size (k0_off1_inb i)) numel1_S1
  let c1024_i32 : BitVec 32 := 1024#32
  let v19 : BitVec 32 := Scalar.addi v18 c1024_i32
  let c1_i32_4 : BitVec 32 := 1#32
  let v20 : BitVec 32 := Scalar.subi v19 c1_i32_4
  let c1024_i32_5 : BitVec 32 := 1024#32
  let v21 : BitVec 32 := Scalar.divsi v20 c1024_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c1024_i32_5 c0_i32_8
  let v28 : BitVec 32 := Scalar.extui v27
  let c0_i32_9 : BitVec 32 := 0#32
  let v29 : BitVec 1 := Scalar.cmpi .slt c1024_i32_5 c0_i32_9
  let v30 : BitVec 32 := Scalar.extui v29
  let v31 : BitVec 32 := Scalar.subi v28 v30
  let v32 : BitVec 1 := Scalar.cmpi .ne v26 v31
  let v33 : BitVec 32 := Scalar.remsi v20 c1024_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let c8_i32_14 : BitVec 32 := 8#32
  let v40 : BitVec 32 := Scalar.muli v16 c8_i32_14
  let v41 : BitVec 32 := Scalar.subi arg1 v40
  let v42 : BitVec 32 := Scalar.minsi v41 v39
  let c0_i32_15 : BitVec 32 := 0#32
  ![v16.toNat, v42.toNat, arg0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S16) ![v17.toNat] S1.size (k0_off1_inb i)) numel1_S1
  let c1024_i32 : BitVec 32 := 1024#32
  let v19 : BitVec 32 := Scalar.addi v18 c1024_i32
  let c1_i32_4 : BitVec 32 := 1#32
  let v20 : BitVec 32 := Scalar.subi v19 c1_i32_4
  let c1024_i32_5 : BitVec 32 := 1024#32
  let v21 : BitVec 32 := Scalar.divsi v20 c1024_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c1024_i32_5 c0_i32_8
  let v28 : BitVec 32 := Scalar.extui v27
  let c0_i32_9 : BitVec 32 := 0#32
  let v29 : BitVec 1 := Scalar.cmpi .slt c1024_i32_5 c0_i32_9
  let v30 : BitVec 32 := Scalar.extui v29
  let v31 : BitVec 32 := Scalar.subi v28 v30
  let v32 : BitVec 1 := Scalar.cmpi .ne v26 v31
  let v33 : BitVec 32 := Scalar.remsi v20 c1024_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let c8_i32_14 : BitVec 32 := 8#32
  let v40 : BitVec 32 := Scalar.muli v16 c8_i32_14
  let v41 : BitVec 32 := Scalar.subi arg1 v40
  let v42 : BitVec 32 := Scalar.minsi v41 v39
  let c0_i32_15 : BitVec 32 := 0#32
  let c0_i32_16 : BitVec 32 := 0#32
  ![v16.toNat, v42.toNat, c0_i32_15.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S16) ![v17.toNat] S1.size (k0_off1_inb i)) numel1_S1
  let c1024_i32 : BitVec 32 := 1024#32
  let v19 : BitVec 32 := Scalar.addi v18 c1024_i32
  let c1_i32_4 : BitVec 32 := 1#32
  let v20 : BitVec 32 := Scalar.subi v19 c1_i32_4
  let c1024_i32_5 : BitVec 32 := 1024#32
  let v21 : BitVec 32 := Scalar.divsi v20 c1024_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c1024_i32_5 c0_i32_8
  let v28 : BitVec 32 := Scalar.extui v27
  let c0_i32_9 : BitVec 32 := 0#32
  let v29 : BitVec 1 := Scalar.cmpi .slt c1024_i32_5 c0_i32_9
  let v30 : BitVec 32 := Scalar.extui v29
  let v31 : BitVec 32 := Scalar.subi v28 v30
  let v32 : BitVec 1 := Scalar.cmpi .ne v26 v31
  let v33 : BitVec 32 := Scalar.remsi v20 c1024_i32_5
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.subi v37 c1_i32_12
  let c0_i32_13 : BitVec 32 := 0#32
  let v39 : BitVec 32 := Scalar.maxsi v38 c0_i32_13
  let c8_i32_14 : BitVec 32 := 8#32
  let v40 : BitVec 32 := Scalar.muli v16 c8_i32_14
  let v41 : BitVec 32 := Scalar.subi arg1 v40
  let v42 : BitVec 32 := Scalar.minsi v41 v39
  let c0_i32_15 : BitVec 32 := 0#32
  let c0_i32_16 : BitVec 32 := 0#32
  ![v16.toNat, v42.toNat, c0_i32_15.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1280x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2816 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1280x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceIdeal.lean ====
abbrev S16x8192x2560 : Shape := ⟨3, ![16, 8192, 2560]⟩
abbrev S16x64x2560 : Shape := ⟨3, ![16, 64, 2560]⟩
abbrev S16x8192x2816 : Shape := ⟨3, ![16, 8192, 2816]⟩
abbrev S16x64x2816 : Shape := ⟨3, ![16, 64, 2816]⟩
abbrev S2560x2816 : Shape := ⟨2, ![2560, 2816]⟩
abbrev S16 : Shape := ⟨1, ![16]⟩
abbrev S16x64x128x2560 : Shape := ⟨4, ![16, 64, 128, 2560]⟩
abbrev S16x64x1x2560 : Shape := ⟨4, ![16, 64, 1, 2560]⟩
abbrev S16x64x128x2816 : Shape := ⟨4, ![16, 64, 128, 2816]⟩
abbrev S16x64x1x2816 : Shape := ⟨4, ![16, 64, 1, 2816]⟩
abbrev S8192 : Shape := ⟨1, ![8192]⟩
abbrev S64x128 : Shape := ⟨2, ![64, 128]⟩
abbrev S1x64x128 : Shape := ⟨3, ![1, 64, 128]⟩
abbrev S16x1x1 : Shape := ⟨3, ![16, 1, 1]⟩
abbrev S16x64x128 : Shape := ⟨3, ![16, 64, 128]⟩
abbrev S16x64x128x1 : Shape := ⟨4, ![16, 64, 128, 1]⟩
abbrev S_ : Shape := ⟨0, ![]⟩

abbrev nBuf : Space → Nat
  | .hbm => 32
  | .vmem => 4
  | .smem => 0
  | _ => 0

abbrev bufTy : (tb : Table) → Fin (tcTables nBuf tb) → BufTy
  | .hbm, ⟨0, _⟩ => ⟨S16x8192x2560, .fp8e4m3⟩
  | .hbm, ⟨1, _⟩ => ⟨S16x64x2560, .f32⟩
  | .hbm, ⟨2, _⟩ => ⟨S16x8192x2816, .fp8e5m2⟩
  | .hbm, ⟨3, _⟩ => ⟨S16x64x2816, .f32⟩
  | .hbm, ⟨4, _⟩ => ⟨S2560x2816, .f32⟩
  | .hbm, ⟨5, _⟩ => ⟨S16, .i32⟩
  | .hbm, ⟨6, _⟩ => ⟨S16x8192x2560, .bf16⟩
  | .hbm, ⟨7, _⟩ => ⟨S16x8192x2816, .bf16⟩
  | .hbm, ⟨8, _⟩ => ⟨S16x64x128x2560, .bf16⟩
  | .hbm, ⟨9, _⟩ => ⟨S16x64x2560, .bf16⟩
  | .hbm, ⟨10, _⟩ => ⟨S16x64x1x2560, .bf16⟩
  | .hbm, ⟨11, _⟩ => ⟨S16x64x128x2560, .bf16⟩
  | .hbm, ⟨12, _⟩ => ⟨S16x64x128x2560, .bf16⟩
  | .hbm, ⟨13, _⟩ => ⟨S16x64x128x2816, .bf16⟩
  | .hbm, ⟨14, _⟩ => ⟨S16x64x2816, .bf16⟩
  | .hbm, ⟨15, _⟩ => ⟨S16x64x1x2816, .bf16⟩
  | .hbm, ⟨16, _⟩ => ⟨S16x64x128x2816, .bf16⟩
  | .hbm, ⟨17, _⟩ => ⟨S16x64x128x2816, .bf16⟩
  | .hbm, ⟨18, _⟩ => ⟨S8192, .i32⟩
  | .hbm, ⟨19, _⟩ => ⟨S64x128, .i32⟩
  | .hbm, ⟨20, _⟩ => ⟨S1x64x128, .i32⟩
  | .hbm, ⟨21, _⟩ => ⟨S16x1x1, .i32⟩
  | .hbm, ⟨22, _⟩ => ⟨S16x64x128, .i32⟩
  | .hbm, ⟨23, _⟩ => ⟨S16x64x128, .i32⟩
  | .hbm, ⟨24, _⟩ => ⟨S16x64x128, .i1⟩
  | .hbm, ⟨25, _⟩ => ⟨S16x64x128x1, .i1⟩
  | .hbm, ⟨26, _⟩ => ⟨S_, .bf16⟩
  | .hbm, ⟨27, _⟩ => ⟨S16x64x128x2816, .i1⟩
  | .hbm, ⟨28, _⟩ => ⟨S16x64x128x2816, .bf16⟩
  | .hbm, ⟨29, _⟩ => ⟨S16x64x128x2816, .bf16⟩
  | .hbm, ⟨30, _⟩ => ⟨S2560x2816, .f32⟩
  | .hbm, ⟨31, _⟩ => ⟨S2560x2816, .f32⟩
  | .local _ .vmem, ⟨0, _⟩ => ⟨S16x8192x2560, .fp8e4m3⟩
  | .local _ .vmem, ⟨1, _⟩ => ⟨S16x8192x2816, .fp8e5m2⟩
  | .local _ .vmem, ⟨2, _⟩ => ⟨S16x8192x2560, .bf16⟩
  | .local _ .vmem, ⟨3, _⟩ => ⟨S16x8192x2816, .bf16⟩
  | _, _ => ⟨S16x8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192x2816 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Region.lean ====
/- What the region of `Kernel` hands the kernel body: the memory as the region finds it, the lengths table read off it,
   each window's block, the staging memrefs at a grid point, the frame claim's post read off a run's, and the two
   conditions the body branches on. Stated for every contents of the lengths table. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-! ## The schedule of the windows no table moves -/

/-- Window 5 (result 0 (%0)) is written back at the points ≡ 127 (mod 128), at any contents of the tables (its index map reads none). -/
theorem flush0_5 (a : (pcfg0 (F := F)).Adm) : ∀ t : Fin (cfg0 a).N, ((cfg0 a).win 5).flush t = true ↔ t.val % 128 = 127 :=
  (fun t => Pipeline.Window.flushOf_reads cc0_transform_5 reads0_5 hreads0_5 0 (by decide) (by decide) (Pipeline.Window.sep_of_coord cc0_transform_5 0 0 (fun _ => rfl) (by decide)) (P := 128) (m := 127) (by decide) rfl t : ∀ t : Fin grid0.N, Pipeline.Window.flushOf grid0 true cc0_transform_5 t = true ↔ t.val % 128 = 127)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_wgrad (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any float instance. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 0 rfl).trans ((hA c 0).trans (V_main_arg4 m c)),
      ((h c).2 main_arg5 (by decide : main_arg5 ∈ Pipeline.restRefs sig spec0)).trans (V_main_arg5 m c)⟩) h

/-! ## The staging memrefs at a point -/

/-- Each window's current staging memref at point `t`, spelled as the pipeline passes it (`bodyAt0`), and its wholeness. -/
abbrev ms0_0 (hO : Ok m) (t : Fin (cfgM m hO).N) : Memref sig .tc .vmem S1280x2816 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1280 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x1280 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x2816 .fp8e5m2 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x2816 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1280x2816 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1280x1024 .bf16 := Memref.whole cc0_scratch0

/-- The frame kit's invariant with the scratch operands as memrefs owned at some contents (`scopedRest0_eq`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The length a point reads, and the body's two conditions -/

/-- The word of the lengths table the body loads at coordinates `i`: the length of the sequence the point is in. -/
def lenAt (i : grid0.Coords) (x : (main_arg5 : Ref sig .tc).ty.Contents (Elt F)) : BitVec 32 :=
  tbM0_0.view.readAt (Elt F) (Rect.unit (s := S16) (k0_off1 i) S1.size (k0_off1_inb i)).toLoadRect x
    (Shape.Idx.first (numel1_S1.symm ▸ Nat.one_pos))

end Cert.Kernel.Body

end
-- ==== Proof.Kernel.RunDead.lean ====
/- The body's run at a point whose chunk starts past the end of its sequence: it multiplies nothing. At the first point of a
   band it copies the initial gradient into the output's buffer; later it leaves that buffer alone. -/
module

public import proofs.«01_k».proof.Proof.Kernel.Region

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 1000000 in
/-- First point of a band, chunk past the end: the body runs and hands back the inputs and the table's half as they were,
    the output's buffer and the scratch at some contents. -/
theorem run_dead_first (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (hc0 : k0_cond1 i = 1#1) (hc1 : ¬k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

set_option maxHeartbeats 1000000 in
/-- Later point, chunk past the end: the body runs and hands back everything as it was, up to the output's buffer and
    the scratch being at some contents. -/
theorem run_dead_later (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (hc0 : ¬k0_cond1 i = 1#1) (hc1 : ¬k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

end Cert.Kernel.Body

end
-- ==== Proof.Kernel.RunLive.lean ====
/- The body's run at a later point whose chunk starts before the end of its sequence: it fills the scratch with the scaled,
   transposed left factor and adds the product with the scaled, masked right factor to the output's buffer. -/
module

public import proofs.«01_k».proof.Proof.Kernel.Region

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- Later point, chunk before the end: the body runs and hands back the inputs and the table's half as they were, the
    output's buffer and the scratch at some contents. -/
theorem run_live_later (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (hc0 : ¬k0_cond1 i = 1#1) (hc1 : k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

end Cert.Kernel.Body

end
-- ==== Proof.Kernel.RunLiveFirst.lean ====
/- The body's run at the first point of a band when its chunk starts before the end of its sequence: the initial gradient is
   copied into the output's buffer, and the product of the point's chunk is added to it. -/
module

public import proofs.«01_k».proof.Proof.Kernel.Region

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- First point of a band, chunk before the end: the body runs and hands back the inputs and the table's half as they
    were, the output's buffer and the scratch at some contents. -/
theorem run_live_first (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (hc0 : k0_cond1 i = 1#1) (hc1 : k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    iexact HT0

end Cert.Kernel.Body

end
-- ==== Proof.Kernel.Frame.lean ====
/- The frame of `Kernel`: from any memory with zero counters the program terminates, leaves its arguments unchanged and
   every semaphore counter at zero. What the kernel leaves in its output is not named here. Stated for every contents of
   the lengths table the region admits (`Ok`). -/
module

public import proofs.«01_k».proof.Proof.Kernel.RunDead
public import proofs.«01_k».proof.Proof.Kernel.RunLive
public import proofs.«01_k».proof.Proof.Kernel.RunLiveFirst
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-- The body's triple at any coordinates: on whole staging memrefs, the inputs' at their contents, the output's and
    the scratch buffer at anything, the body runs and hands the inputs and the table's half back as they were, the
    output's buffer and the scratch at some contents. The four cases of its two conditions. -/
theorem run (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
  by_cases h0 : k0_cond1 i = 1#1 <;> by_cases h1 : k0_cond2 i (lenAt i xt0) = 1#1
  · exact run_live_first c i arg3 harg3 arg4 harg4 arg5 harg5 arg6 harg6 arg7 harg7 arg8 harg8 arg9 harg9 x0 x1 x2 x3 x4 xt0 h0 h1
  · exact run_dead_first c i arg3 harg3 arg4 harg4 arg5 harg5 arg6 harg6 arg7 harg7 arg8 harg8 arg9 harg9 x0 x1 x2 x3 x4 xt0 h0 h1
  · exact run_live_later c i arg3 harg3 arg4 harg4 arg5 harg5 arg6 harg6 arg7 harg7 arg8 harg8 arg9 harg9 x0 x1 x2 x3 x4 xt0 h0 h1
  · exact run_dead_later c i arg3 harg3 arg4 harg4 arg5 harg5 arg6 harg6 arg7 harg7 arg8 harg8 arg9 harg9 x0 x1 x2 x3 x4 xt0 h0 h1

variable (m : (ℓ : Loc nD τ sig) → Buf (Elt F) ℓ) (ρ : Dev nD → PrngReg)

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d))

set_option maxHeartbeats 800000 in
/-- The body at any point: the inputs' memrefs hold their blocks (`before0_W`), so `run` applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩⟩
  iapply (run c (grid0.coords t) _ (hs0_0 m hO t) _ (hs0_1 m hO t) _ (hs0_2 m hO t) _ (hs0_3 m hO t) _ (hs0_4 m hO t) _ (hs0_5 m hO t) _ (Memref.isWhole_whole _) (iblk m hO c 0 t) (iblk m hO c 1 t) (iblk m hO c 2 t) (iblk m hO c 3 t) (iblk m hO c 4 t) (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HT0]; · iexact HT0
  iintro ⟨H0, H1, H2, H3, H4, H5, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- The frame claim's statement at any float instance, for every contents of the lengths table the region admits:
    the argument arrays end unchanged and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel.Body

end
-- ==== Proof.Words.lean ====
/- The index words of the kernel, as numbers. A grid point's second coordinate `n` (below 128) names a sequence, `n / 8`, and
   a chunk of 1024 of its positions, `n % 8`; both are printed as chains of signed 32-bit operations. The chunk a window
   fetches is the smaller of the point's own and the last one the sequence's length reaches. -/
module

public import Idealize.ShloMosaic.Lib.Affine
public import Idealize.ShloMosaic.Lib.WordCmp

@[expose] public section

set_option maxRecDepth 16384

namespace Cert.Words

open Idealize.ShloMosaic

/-- The sequence of step `a`: the floor of `a / 8`, in the operations the index maps and the body print. -/
def seqWord (a : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt 8#32 0#32)) (Scalar.extui (Scalar.cmpi .slt 8#32 0#32))))
      (Scalar.cmpi .ne (Scalar.remsi a 8#32) 0#32))
    (Scalar.subi (Scalar.divsi a 8#32) 1#32) (Scalar.divsi a 8#32)

/-- The chunk of step `a` within its sequence. -/
def chunkWord (a : BitVec 32) : BitVec 32 := Scalar.subi a (Scalar.muli (seqWord a) 8#32)

/-- The floor of `y / 1024`, in the operations the index maps print. -/
def floorWord (y : BitVec 32) : BitVec 32 :=
  Scalar.select
    (Scalar.andi
      (Scalar.cmpi .ne
        (Scalar.subi (Scalar.extui (Scalar.cmpi .sgt y 0#32)) (Scalar.extui (Scalar.cmpi .slt y 0#32)))
        (Scalar.subi (Scalar.extui (Scalar.cmpi .sgt 1024#32 0#32)) (Scalar.extui (Scalar.cmpi .slt 1024#32 0#32))))
      (Scalar.cmpi .ne (Scalar.remsi y 1024#32) 0#32))
    (Scalar.subi (Scalar.divsi y 1024#32) 1#32) (Scalar.divsi y 1024#32)

/-- The chunk fetched at step `a` of a sequence of length `len`. -/
def fetchWord (a len : BitVec 32) : BitVec 32 :=
  Scalar.minsi (chunkWord a)
    (Scalar.maxsi (Scalar.subi (floorWord (Scalar.subi (Scalar.addi len 1024#32) 1#32)) 1#32) 0#32)

/-- Step `n`'s sequence is `n / 8`. -/
theorem seqWord_eq : ∀ n : Fin 128, seqWord (BitVec.ofNat 32 n.val) = BitVec.ofNat 32 (n.val / 8) := by decide +kernel

/-- Step `n`'s chunk is `n % 8`. -/
theorem chunkWord_eq : ∀ n : Fin 128, chunkWord (BitVec.ofNat 32 n.val) = BitVec.ofNat 32 (n.val % 8) := by decide +kernel

/-- A word that reads as a number at least 0 is that number. -/
theorem toNat_of {x : BitVec 32} {e : Int} (h : Affine.IsInt x e) (h0 : 0 ≤ e) : (x.toNat : Int) = e := by
  unfold Affine.IsInt at h
  rw [BitVec.toInt_eq_toNat_cond] at h
  split at h <;> omega

/-- Step `n`'s sequence, as a number. -/
theorem seqWord_toNat (n : Fin 128) : (seqWord (BitVec.ofNat 32 n.val)).toNat = n.val / 8 := by
  rw [seqWord_eq, BitVec.toNat_ofNat]; omega

/-- Whatever the length, the chunk fetched is one of the eight. -/
theorem fetchWord_le (n : Fin 128) (len : BitVec 32) : (fetchWord (BitVec.ofNat 32 n.val) len).toNat ≤ 7 := by
  unfold fetchWord
  rw [chunkWord_eq]
  generalize floorWord (Scalar.subi (Scalar.addi len 1024#32) 1#32) = y
  have hk : Affine.IsInt (BitVec.ofNat 32 (n.val % 8)) ((n.val % 8 : ℕ) : Int) := Affine.ofNat _ (by omega)
  have hy := Affine.maxsi (Affine.word (Scalar.subi y 1#32)) (Affine.ofNat 0 (by decide) : Affine.IsInt (0#32) 0) rfl
  have hm := Affine.minsi hk hy rfl
  have h := toNat_of hm (by omega)
  omega

/-- When the step's chunk starts before the end of its sequence, and the length leaves room for the rounding up not to
    overflow, the chunk fetched is the step's own. -/
theorem fetchWord_live (n : Fin 128) (len : BitVec 32) (hlive : 1024 * (n.val % 8 : ℕ) < len.toInt)
    (hlen : len.toInt ≤ 2147482624) : (fetchWord (BitVec.ofNat 32 n.val) len).toNat = n.val % 8 := by
  unfold fetchWord
  rw [chunkWord_eq]
  have hk : Affine.IsInt (BitVec.ofNat 32 (n.val % 8)) ((n.val % 8 : ℕ) : Int) := Affine.ofNat _ (by omega)
  have hl := Affine.word len
  generalize len.toInt = L at hlive hlen hl
  have c1024 : Affine.IsInt (1024#32) 1024 := Affine.ofNat 1024 (by decide)
  have c1 : Affine.IsInt (1#32) 1 := Affine.ofNat 1 (by decide)
  have c0 : Affine.IsInt (0#32) 0 := Affine.ofNat 0 (by decide)
  have h2 := Affine.addi hl (Affine.ofNat 1023 (by decide) : Affine.IsInt (1023#32) 1023) (e := L + 1023) (by omega)
  rw [show Scalar.addi len 1023#32 = Scalar.subi (Scalar.addi len 1024#32) 1#32 from by
    show len + 1023#32 = len + 1024#32 - 1#32
    rw [BitVec.sub_eq_add_neg, BitVec.add_assoc]; rfl] at h2
  generalize Scalar.subi (Scalar.addi len 1024#32) 1#32 = y at h2
  have hd := Affine.divsi h2 c1024 (e := (L + 1023) / 1024) (by omega)
  have hd1 := Affine.subi hd c1 (e := (L + 1023) / 1024 - 1) (by omega)
  have hg := Affine.extui_holds (Affine.sgt_holds h2 c0 (by omega)) rfl
  have hs := Affine.extui_fails (Affine.slt_fails h2 c0 (by omega)) rfl
  have hg' := Affine.extui_holds (Affine.sgt_holds c1024 c0 (by omega)) rfl
  have hs' := Affine.extui_fails (Affine.slt_fails c1024 c0 (by omega)) rfl
  have hne := Affine.ne_fails (Affine.subi hg hs (e := 1) (by omega)) (Affine.subi hg' hs' (e := 1) (by omega)) rfl
  have hsel := Affine.select_fails (Affine.andi_fails_left hne (d := Scalar.cmpi .ne (Scalar.remsi y 1024#32) 0#32) trivial) hd1 hd rfl
  have hf : Affine.IsInt (floorWord y) ((L + 1023) / 1024) := hsel
  have hy := Affine.maxsi (Affine.subi hf c1 (e := (L + 1023) / 1024 - 1) (by omega)) c0 rfl
  have hm := Affine.minsi hk hy rfl
  have h := toNat_of hm (by omega)
  omega

/-- Step `n`'s chunk starts at position `1024 * (n % 8)`; the printed comparison of that position with the length. -/
theorem live_iff (n : Fin 128) (len : BitVec 32) :
    Scalar.cmpi .ne (Scalar.extui (Scalar.cmpi .slt (Scalar.muli (chunkWord (BitVec.ofNat 32 n.val)) 1024#32) len)) 0#32 = 1#1
      ↔ 1024 * (n.val % 8 : ℕ) < len.toInt := by
  rw [Scalar.guard_iff, chunkWord_eq]
  have hk : Affine.IsInt (BitVec.ofNat 32 (n.val % 8)) ((n.val % 8 : ℕ) : Int) := Affine.ofNat _ (by omega)
  have h := Affine.muli hk (Affine.ofNat 1024 (by decide) : Affine.IsInt (1024#32) 1024) (e := 1024 * (n.val % 8 : ℕ)) (by omega)
  by_cases hl : 1024 * ((n.val % 8 : ℕ) : Int) < len.toInt
  · exact ⟨fun _ => hl, fun _ => Affine.slt_holds h (Affine.word len) hl⟩
  · exact ⟨fun hh => absurd hh (Affine.slt_fails h (Affine.word len) hl), fun hh => absurd hh hl⟩

/-- When the step's chunk starts before the end of its sequence, what is left of the length from there does not wrap. -/
theorem rest_toInt (n : Fin 128) (len : BitVec 32) (hlive : 1024 * (n.val % 8 : ℕ) < len.toInt) :
    (Scalar.subi len (Scalar.muli (chunkWord (BitVec.ofNat 32 n.val)) 1024#32)).toInt = len.toInt - 1024 * (n.val % 8 : ℕ) := by
  rw [chunkWord_eq]
  have hk : Affine.IsInt (BitVec.ofNat 32 (n.val % 8)) ((n.val % 8 : ℕ) : Int) := Affine.ofNat _ (by omega)
  have h := Affine.muli hk (Affine.ofNat 1024 (by decide) : Affine.IsInt (1024#32) 1024) (e := 1024 * (n.val % 8 : ℕ)) (by omega)
  have hlt := BitVec.toInt_lt (x := len)
  have hs := Affine.subi (Affine.word len) h (e := len.toInt - 1024 * (n.val % 8 : ℕ)) (by omega)
  unfold Affine.IsInt at hs
  exact hs

end Cert.Words
-- ==== Proof.Kernel.Tables.lean ====
/- The windows of `Kernel` whose index maps read the lengths table: which block each fetches at a grid point, and that the
   block is inside its array whatever lengths the table holds. -/
module

public import proofs.«01_k».proof.Proof.Kernel.Region
public import proofs.«01_k».proof.Proof.Words

@[expose] public section

set_option maxRecDepth 16384

noncomputable section

namespace Cert.Kernel.Body

open Idealize.ShloMosaic Idealize.ShloMosaic.TcCoe
open Cert.Kernel.Gen

variable {F : FTy → Type} [FloatOps F]

/-- The length the index maps read at coordinates `i`. -/
def lenPf (pf : pre0.Contents (Elt F)) (i : grid0.Coords) : BitVec 32 :=
  pf.at 0 (Rect.unit (s := S16) (k0_off1 i) S1.size (k0_off1_inb i)) numel1_S1

/-- The sequence of a point is one of the sixteen. -/
theorem seq_toNat (i : grid0.Coords) : (Words.seqWord (BitVec.ofNat 32 (i 1).val)).toNat = (i 1).val / 8 :=
  Words.seqWord_toNat ⟨(i 1).val, (i 1).isLt⟩

/-- The first grid coordinate (the band of columns of the left factor) is itself as an index. -/
theorem band_toNat (i : grid0.Coords) : (BitVec.ofNat 32 (i 0).val).toNat = (i 0).val := by
  have h : (i 0).val < 2 := (i 0).isLt
  rw [BitVec.toNat_ofNat]; omega

/-- The chunk fetched at a point, as a number: at most 7. -/
def chunk (pf : pre0.Contents (Elt F)) (i : grid0.Coords) : Nat :=
  (Words.fetchWord (BitVec.ofNat 32 (i 1).val) (lenPf pf i)).toNat

theorem chunk_le (pf : pre0.Contents (Elt F)) (i : grid0.Coords) : chunk pf i ≤ 7 :=
  Words.fetchWord_le ⟨(i 1).val, (i 1).isLt⟩ _

/-- Window 1 fetches the point's sequence, the chunk, the point's band. -/
theorem index_1 (pf : pre0.Contents (Elt F)) (i : grid0.Coords) :
    cc0_transform_1 k0_off1_inb numel1_S1 pf i = ![(i 1).val / 8, chunk pf i, (i 0).val] := by
  rw [← seq_toNat, ← band_toNat i]; rfl
/-- Window 2 likewise. -/
theorem index_2 (pf : pre0.Contents (Elt F)) (i : grid0.Coords) :
    cc0_transform_2 k0_off1_inb numel1_S1 pf i = ![(i 1).val / 8, chunk pf i, (i 0).val] := by
  rw [← seq_toNat, ← band_toNat i]; rfl
/-- Window 3 fetches the point's sequence and the chunk, all columns. -/
theorem index_3 (pf : pre0.Contents (Elt F)) (i : grid0.Coords) :
    cc0_transform_3 k0_off1_inb numel1_S1 pf i = ![(i 1).val / 8, chunk pf i, 0] := by
  rw [← seq_toNat]; rfl
/-- Window 4 likewise. -/
theorem index_4 (pf : pre0.Contents (Elt F)) (i : grid0.Coords) :
    cc0_transform_4 k0_off1_inb numel1_S1 pf i = ![(i 1).val / 8, chunk pf i, 0] := by
  rw [← seq_toNat]; rfl

/-- A block of three axes is inside its array when each axis is. -/
theorem inb3 {x y z a b c A B C : Nat} (h0 : (x + 1) * a ≤ A) (h1 : (y + 1) * b ≤ B) (h2 : (z + 1) * c ≤ C) :
    ∀ k : Fin 3, ((![x, y, z] : Fin 3 → Nat) k + 1) * (![a, b, c] : Fin 3 → Nat) k ≤ (![A, B, C] : Fin 3 → Nat) k := by
  intro k; fin_cases k
  · exact h0
  · exact h1
  · exact h2

/-- Whatever the tables hold, every block fetched is inside its array and made of whole words. -/
theorem ok_any (pf : pre0.Contents (Elt F)) : ok0 pf := by
  refine ⟨fun i => ?_, fun i => ?_, fun i => ?_, fun i => ?_⟩ <;>
    (have hc := chunk_le pf i
     have h0 : (i 0).val < 2 := (i 0).isLt
     have h1 : (i 1).val < 128 := (i 1).isLt)
  · refine ⟨?_, .inr (Affine.block_words_dvd (by decide) (by decide))⟩
    rw [index_1]; exact inb3 (by omega) (by omega) (by omega)
  · refine ⟨?_, .inl rfl⟩
    rw [index_2]; exact inb3 (by omega) (by omega) (by omega)
  · refine ⟨?_, .inr (Affine.block_words_dvd (by decide) (by decide))⟩
    rw [index_3]; exact inb3 (by omega) (by omega) (by omega)
  · refine ⟨?_, .inl rfl⟩
    rw [index_4]; exact inb3 (by omega) (by omega) (by omega)

/-- The pipeline's side condition holds of the tables every memory has. -/
theorem ok (m : (ℓ : Loc nD τ sig) → Buf (Elt F) ℓ) : Ok m := ok_any (tbl m)

end Cert.Kernel.Body

end
-- ==== Proof.KernelIdeal.Region.lean ====
/- What the region of `KernelIdeal` hands the kernel body: the memory as the region finds it, the lengths table read off it,
   each window's block, the staging memrefs at a grid point, the frame claim's post read off a run's, and the two
   conditions the body branches on. Stated for every contents of the lengths table. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! ## The schedule of the windows no table moves -/

/-- Window 5 (result 0 (%0)) is written back at the points ≡ 127 (mod 128), at any contents of the tables (its index map reads none). -/
theorem flush0_5 (a : (pcfg0 (F := F)).Adm) : ∀ t : Fin (cfg0 a).N, ((cfg0 a).win 5).flush t = true ↔ t.val % 128 = 127 :=
  (fun t => Pipeline.Window.flushOf_reads cc0_transform_5 reads0_5 hreads0_5 0 (by decide) (by decide) (Pipeline.Window.sep_of_coord cc0_transform_5 0 0 (fun _ => rfl) (by decide)) (P := 128) (m := 127) (by decide) rfl t : ∀ t : Fin grid0.N, Pipeline.Window.flushOf grid0 true cc0_transform_5 t = true ↔ t.val % 128 = 127)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_wgrad (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any float instance. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 0 rfl).trans ((hA c 0).trans (V_main_arg4 m c)),
      ((h c).2 main_arg5 (by decide : main_arg5 ∈ Pipeline.restRefs sig spec0)).trans (V_main_arg5 m c)⟩) h

/-! ## The staging memrefs at a point -/

/-- Each window's current staging memref at point `t`, spelled as the pipeline passes it (`bodyAt0`), and its wholeness. -/
abbrev ms0_0 (hO : Ok m) (t : Fin (cfgM m hO).N) : Memref sig .tc .vmem S1280x2816 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1280 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x1280 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x2816 .fp8e5m2 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x2816 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1280x2816 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1280x1024 .bf16 := Memref.whole cc0_scratch0

/-- The frame kit's invariant with the scratch operands as memrefs owned at some contents (`scopedRest0_eq`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The length a point reads, and the body's two conditions -/

/-- The word of the lengths table the body loads at coordinates `i`: the length of the sequence the point is in. -/
def lenAt (i : grid0.Coords) (x : (main_arg5 : Ref sig .tc).ty.Contents (Elt F)) : BitVec 32 :=
  tbM0_0.view.readAt (Elt F) (Rect.unit (s := S16) (k0_off1 i) S1.size (k0_off1_inb i)).toLoadRect x
    (Shape.Idx.first (numel1_S1.symm ▸ Nat.one_pos))

end Cert.KernelIdeal.Body

end
-- ==== Proof.KernelIdeal.RunLive.lean ====
/- The body's run at a later point whose chunk starts before the end of its sequence, with what it stores: the scratch, filled
   piece by piece with the scaled and transposed left factor, and the output's buffer, rewritten column tile by column
   tile. -/
module

public import proofs.«01_k».proof.Proof.KernelIdeal.Region

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- At a point that is not the first of its band (`hc0`) and whose chunk starts before the end of its sequence (`hc1`), the body
    runs from the output's buffer at `xo5` and leaves it, and the scratch, at the lists of stores given here; everything
    else is handed back as it was. The lists are read off the run. -/
def live (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (xo5 : Vec F S1280x2816 .f32) :
    Σ' (L5 : List (View.Piece (Elt F) S1280x2816 .f32)), { LT0 : List (View.Piece (Elt F) S1280x1024 .bf16) //
      ∀ (_hc0 : ¬k0_cond1 i = 1#1) (_hc1 : k0_cond2 i (lenAt i xt0) = 1#1) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LT0) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K } := by
  refine ⟨?_, ?_, fun hc0 hc1 E K => ?run⟩
  case run =>
    simp only [cc0_wgrad_eq_skeleton]; unfold cc0_wgrad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexact HT0

end Cert.KernelIdeal.Body

end
-- ==== Proof.KernelIdeal.RunLiveFirst.lean ====
/- The body's run at the first point of a band when its chunk starts before the end of its sequence: the initial gradient is
   copied into the output's buffer, and from there the run is the one of a later point. -/
module

public import proofs.«01_k».proof.Proof.KernelIdeal.RunLive
public import Idealize.ShloMosaic.Lib.WholeRead
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-- A whole buffer stored over another holds the first's contents. -/
theorem whole_copy {c : Thread nD τ} {arg3 arg8 : Memref sig c.2.kind .vmem S1280x2816 .f32} (harg3 : arg3.IsWhole) (harg8 : arg8.IsWhole)
    (f : arg8.view.ty.Contents (Elt F)) (x : Vec F S1280x2816 .f32) :
    arg8.view.writes (Elt F) f [⟨Rect.unit ![0, 0] ![1280, 2816] inb_S1280x2816_S1280x2816_0_0,
      View.readAt (Elt F) arg3.view (Rect.unit ![0, 0] ![1280, 2816] inb_S1280x2816_S1280x2816_0_0).toLoadRect (harg3.unread x)⟩]
      = harg8.unread x := by
  refine harg8.eq_unread ?_
  rw [View.read_writes_full]
  funext y
  rw [harg3.readAt_unread]
  congr 1
  funext a; apply Fin.ext
  show (![0, 0] : Fin 2 → ℕ) a + 1 * (y a).val = (y a).val
  fin_cases a <;> simp

set_option maxHeartbeats 4000000 in
/-- At the first point of a band whose chunk starts before the end of its sequence, the body leaves the output's buffer and the
    scratch at the lists of stores given here, the output's starting from the initial gradient `x0`. -/
def live_first (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) :
    Σ' (L5 : List (View.Piece (Elt F) S1280x2816 .f32)), { LT0 : List (View.Piece (Elt F) S1280x1024 .bf16) //
      ∀ (_hc0 : k0_cond1 i = 1#1) (_hc1 : k0_cond2 i (lenAt i xt0) = 1#1) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LT0) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K } := by
  refine ⟨?_, ?_, fun hc0 hc1 E K => ?run⟩
  case run =>
    simp only [cc0_wgrad_eq_skeleton]; unfold cc0_wgrad_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    (set_option sl_exec.stopBefore "k0_part38_skel" in
      sl_exec (disch := first | sl_exact hc0 | sl_exact hc1))
    rw [whole_copy harg3 harg8 f5 x0]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexact HT0

end Cert.KernelIdeal.Body

end
-- ==== Proof.KernelIdeal.RunDead.lean ====
/- The body's run at a point whose chunk starts past the end of its sequence: it multiplies nothing. At the first point of a
   band it copies the initial gradient into the output's buffer; later it leaves that buffer alone. -/
module

public import proofs.«01_k».proof.Proof.KernelIdeal.RunLiveFirst

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 1000000 in
/-- First point of a band, chunk past the end: the body runs and hands back the inputs and the table's half as they were,
    the output's buffer at the initial gradient and the scratch at some contents. -/
theorem run_dead_first (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (hc0 : k0_cond1 i = 1#1) (hc1 : ¬k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x0 ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · rw [whole_copy harg3 harg8 f5 x0]
      iexists _; isplitr; · ipureintro; exact harg8.read_unread _
      iexact H5
    isplitl [HS0]
    · iexists _, _; isplitr; swap; · iexact HS0
      ipureintro; rfl
    iexact HT0

set_option maxHeartbeats 1000000 in
/-- Later point, chunk past the end: the body runs and hands back everything as it was, the output's buffer
    too, up to the scratch being at some contents. -/
theorem run_dead_later (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec F S1280x2816 .f32) (x1 : Vec F S1x1024x1280 .fp8e4m3) (x2 : Vec F S1x8x1280 .f32) (x3 : Vec F S1x1024x2816 .fp8e5m2) (x4 : Vec F S1x8x2816 .f32) (xt0 : TbBuf0 (F := F) c tbM0_0) (xo5 : Vec F S1280x2816 .f32) (hc0 : ¬k0_cond1 i = 1#1) (hc1 : ¬k0_cond2 i (lenAt i xt0) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ tbPt0 c tbM0_0 xt0) -∗ K ⟨⟩))
          ⊢ wp frame (wpE (defs₀ (F := F)) Variants.none c none) E (cc0_wgrad i tbM0_0 htbM0_0 arg3 harg3 arg4 harg4 arg5 harg5 arg6 harg6 arg7 harg7 arg8 harg8 arg9 harg9) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    iexact HT0

end Cert.KernelIdeal.Body

end
-- ==== Proof.KernelIdeal.Tile.lean ====
/- The values of the body's stores at the extended reals: what a piece of the scratch holds, what a column tile of the output
   holds, each told at one index. -/
module

public import proofs.«01_k».proof.Proof.KernelIdeal.Region
public import Idealize.ShloMosaic.PureOps.Ideal.Laws
public import Idealize.ShloMosaic.Lib.ValueLayout
public import Idealize.ShloMosaic.Lib.ValueIdx
public import Idealize.ShloMosaic.Lib.WholeRead
public import Idealize.ShloMosaic.Lib.Writes
public import Idealize.ShloMosaic.Lib.MatmulPlain
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.ShloMosaic.ValueIdx

open Cert.KernelIdeal.Gen

/-- The left factor the scratch is meant to hold: entry `(r, k)` is row `k` of the block, column `r`, times the scale of the
    group of 128 rows that row `k` lies in. -/
def xtAt (x1 : Vec Ideal S1x1024x1280 .fp8e4m3) (x2 : Vec Ideal S1x8x1280 .f32) (r : Fin 1280) (k : Fin 1024) : EReal :=
  x1 (ix3 (0 : Fin 1) k r) * x2 (ix3 (0 : Fin 1) (⟨k.val / 128, by omega⟩ : Fin 8) r)

/-- The right factor: entry `(k, c)` is row `k` of the block, column `c`, times the scale of its group, for the rows that lie
    before the limit `lim`; the rows from `lim` on are zero. -/
def dyAt (lim : BitVec 32) (x3 : Vec Ideal S1x1024x2816 .fp8e5m2) (x4 : Vec Ideal S1x8x2816 .f32) (k : Fin 1024) (c : Fin 2816) : EReal :=
  if (k.val : ℤ) < lim.toInt then x3 (ix3 (0 : Fin 1) k c) * x4 (ix3 (0 : Fin 1) (⟨k.val / 128, by omega⟩ : Fin 8) c) else 0

/-- What one live step makes of the output block `old`: each entry gains the product of the two factors summed over the 1024
    rows of the chunk. -/
def stepAt (lim : BitVec 32) (x1 : Vec Ideal S1x1024x1280 .fp8e4m3) (x2 : Vec Ideal S1x8x1280 .f32) (x3 : Vec Ideal S1x1024x2816 .fp8e5m2)
    (x4 : Vec Ideal S1x8x2816 .f32) (old : Vec Ideal S1280x2816 .f32) : Vec Ideal S1280x2816 .f32 :=
  fun y => old y + ∑ k : Fin 1024, xtAt x1 x2 (y 0) k * dyAt lim x3 x4 k (y 1)

/-- A unit rectangle places `x` at its offset plus `x`, on every axis. -/
theorem unit_emb_val {s : Shape} (off size : Fin s.rank → ℕ) (inb) (x : (Rect.unit (s := s) off size inb).shape.Idx) (a : Fin s.rank) :
    ((Rect.unit (s := s) off size inb).emb x a).val = off a + (x a).val := by
  show off a + 1 * (x a).val = _
  rw [Nat.one_mul]

/-- A load through a unit rectangle reads, at `x`, the place at its offset plus `x`. -/
theorem unit_idx_val {s : Shape} (off size : Fin s.rank → ℕ) (inb) (x : (Rect.unit (s := s) off size inb).toLoadRect.shape.Idx) (a : Fin s.rank) :
    ((Rect.unit (s := s) off size inb).toLoadRect.idx x a).val = off a + (x a).val := by
  show off a + 1 * (x a).val = _
  rw [Nat.one_mul]

/-- A group of 128 rows of one 256-wide column tile, scaled: entry `(a, b)` is the group's entry times the scale of column `b`. -/
theorem xgroup_apply (s : Vec Ideal S1x1x256 .f32) (x : Vec Ideal S1x128x256 .fp8e4m3) (b : Fin 256) (a : Fin 128) :
    k0_pay2 s x (ix2 b a) = x (ix3 (0 : Fin 1) a b) * s (ix3 (0 : Fin 1) (0 : Fin 1) b) := by
  unfold k0_pay2
  simp only [show ∀ (y : FVec Ideal S256x128 .bf16), shapeCast S256x128 y shapeCasts_S256x128_S256x128 = y from fun y => shapeCast_self _ _]
  rw [transpose_ix2_apply]
  show (shapeCast S128x256 x shapeCasts_S1x128x256_S128x256 (ix2 a b) : EReal) * broadcastTo S128x256 _ _ (ix2 a b) = _
  rw [broadcastTo_1b_ab_apply, shapeCast_1ab_ab_apply]
  show _ * (shapeCast S1x256 s shapeCasts_S1x1x256_S1x256 (ix2 (0 : Fin 1) b) : EReal) = _
  rw [shapeCast_1ab_ab_apply]

/-- The same of the right factor, which is not transposed. -/
theorem dgroup_apply (s : Vec Ideal S1x1x256 .f32) (x : Vec Ideal S1x128x256 .fp8e5m2) (a : Fin 128) (b : Fin 256) :
    k0_pay55 s x (ix2 a b) = x (ix3 (0 : Fin 1) a b) * s (ix3 (0 : Fin 1) (0 : Fin 1) b) := by
  unfold k0_pay55
  show (shapeCast S128x256 x shapeCasts_S1x128x256_S128x256 (ix2 a b) : EReal) * broadcastTo S128x256 _ _ (ix2 a b) = _
  rw [broadcastTo_1b_ab_apply, shapeCast_1ab_ab_apply]
  show _ * (shapeCast S1x256 s shapeCasts_S1x1x256_S1x256 (ix2 (0 : Fin 1) b) : EReal) = _
  rw [shapeCast_1ab_ab_apply]

/-- The piece of the scratch stored from row group `j`, columns from `r`: it holds the left factor at its own place. -/
theorem xpiece (arg4 : Memref sig .tc .vmem S1x1024x1280 .fp8e4m3) (harg4 : arg4.IsWhole) (arg5 : Memref sig .tc .vmem S1x8x1280 .f32) (harg5 : arg5.IsWhole)
    (x1 : Vec Ideal S1x1024x1280 .fp8e4m3) (x2 : Vec Ideal S1x8x1280 .f32) (r j k : ℕ) (i5) (i4) (it) (hk : k = 128 * j)
    (y : (Rect.unit (s := S1280x1024) ![r, k] S256x128.size it).shape.Idx) :
    k0_pay2 (arg5.view.readAt (Elt Ideal) (Rect.unit (s := S1x8x1280) ![0, j, r] S1x1x256.size i5).toLoadRect (harg5.unread x2))
      (arg4.view.readAt (Elt Ideal) (Rect.unit (s := S1x1024x1280) ![0, k, r] S1x128x256.size i4).toLoadRect (harg4.unread x1)) y
      = (fun z : S1280x1024.Idx => xtAt x1 x2 (z 0) (z 1)) ((Rect.unit (s := S1280x1024) ![r, k] S256x128.size it).emb y) := by
  obtain ⟨b, a, rfl⟩ : ∃ (b : Fin 256) (a : Fin 128), y = ix2 b a := ⟨y 0, y 1, eq_ix2 y⟩
  refine (xgroup_apply _ _ b a).trans ?_
  rw [harg4.readAt_unread, harg5.readAt_unread]
  show _ = xtAt _ _ _ _
  unfold xtAt
  have e0 := unit_emb_val _ _ it (ix2 b a) 0
  have e1 := unit_emb_val _ _ it (ix2 b a) 1
  change _ = r + b.val at e0
  change _ = k + a.val at e1
  congr 2
  · funext ax
    apply Fin.ext
    rw [unit_idx_val]
    match ax with
    | ⟨0, _⟩ => rfl
    | ⟨1, _⟩ => exact e1.symm
    | ⟨2, _⟩ => exact e0.symm
  · funext ax
    apply Fin.ext
    rw [unit_idx_val]
    match ax with
    | ⟨0, _⟩ => rfl
    | ⟨1, _⟩ =>
      show j + 0 = ((Rect.unit (s := S1280x1024) ![r, k] S256x128.size it).emb (ix2 b a) 1).val / 128
      rw [e1]; omega
    | ⟨2, _⟩ => exact e0.symm

/-- The row mask: an entry is set exactly when its row lies before the limit. -/
theorem mask_apply (v19 : BitVec 32) (v21 : Elt Ideal .i32) (k : Fin 1024) (c : Fin 256) {α : Type} (p q : α) :
    Scalar.select (k0_pay54 (F := Ideal) v19 v21 (ix2 k c)) p q = if (k.val : ℤ) < (Scalar.subi (w := 32) v21 v19).toInt then p else q := by
  have e : k0_pay54 (F := Ideal) v19 v21 (ix2 k c) = Scalar.cmpi .slt (BitVec.ofNat 32 k.val) (Scalar.subi (w := 32) v21 v19) := by
    unfold k0_pay54
    show Scalar.cmpi .slt (iota .tc S1024x256 32 [0] iota_S1024x256_d0_w32 (ix2 k c)) _ = _
    rw [iota_single_apply]; rfl
  rw [e]
  have hk : (BitVec.ofNat 32 k.val).toInt = (k.val : ℤ) := by
    rw [BitVec.toInt_eq_toNat_of_lt (by rw [BitVec.toNat_ofNat]; have := k.isLt; omega), BitVec.toNat_ofNat]
    have := k.isLt; omega
  by_cases h : (k.val : ℤ) < (Scalar.subi (w := 32) v21 v19).toInt
  · rw [if_pos h]
    have : BitVec.slt (BitVec.ofNat 32 k.val) (Scalar.subi (w := 32) v21 v19) = true := by
      rw [BitVec.slt_iff_toInt_lt, hk]; exact h
    simp [Scalar.select, Scalar.cmpi, IntOp.cmpi, this]
  · rw [if_neg h]
    have : BitVec.slt (BitVec.ofNat 32 k.val) (Scalar.subi (w := 32) v21 v19) = false := by
      rw [Bool.eq_false_iff, Ne, BitVec.slt_iff_toInt_lt, hk]; exact h
    simp [Scalar.select, Scalar.cmpi, IntOp.cmpi, this]

/-- A column tile of the output, from the row mask, the eight scaled groups of the right factor, the tile's contents before
    the step and the left factor. -/
def tileOf (mask : IVec S1024x256 1) (f : Fin 8 → FVec Ideal S128x256 .bf16) (old : Vec Ideal S1280x256 .f32) (xt : Vec Ideal S1280x1024 .bf16) :
    FVec Ideal S1280x256 .f32 :=
  addf (shapeCast S1280x256 old shapeCasts_S1280x256_S1280x256)
    (matmul (φ₁ := .bf16) dot_S1280x1024_S1024x256_S1280x256_1_0_0_1_n_n none xt
      (select mask
        (concatenate S1024x256 0 [⟨S128x256, f 0⟩, ⟨S128x256, f 1⟩, ⟨S128x256, f 2⟩, ⟨S128x256, f 3⟩, ⟨S128x256, f 4⟩, ⟨S128x256, f 5⟩, ⟨S128x256, f 6⟩, ⟨S128x256, f 7⟩]
          concatenates_S128x256_S128x256_S128x256_S128x256_S128x256_S128x256_S128x256_S128x256_S1024x256_d0)
        (broadcast S1024x256 (Scalar.ofBits .bf16 0x0000#16 : Ideal .bf16)))
      (constant S1280x256 .f32 0x00000000#32))

/-- Eight groups of 128 rows put one under another: row `k` is row `k % 128` of group `k / 128`. -/
theorem stack_apply (f : Fin 8 → FVec Ideal S128x256 .bf16) (k : Fin 1024) (c : Fin 256) :
    concatenate S1024x256 0 [⟨S128x256, f 0⟩, ⟨S128x256, f 1⟩, ⟨S128x256, f 2⟩, ⟨S128x256, f 3⟩, ⟨S128x256, f 4⟩, ⟨S128x256, f 5⟩, ⟨S128x256, f 6⟩, ⟨S128x256, f 7⟩]
      concatenates_S128x256_S128x256_S128x256_S128x256_S128x256_S128x256_S128x256_S128x256_S1024x256_d0 (ix2 k c)
      = f (⟨k.val / 128, by omega⟩ : Fin 8) (ix2 (⟨k.val % 128, by omega⟩ : Fin 128) c) :=
  concatenate_ofFn_apply (t := S1024x256) (s₁ := S128x256) 0 f
    concatenates_S128x256_S128x256_S128x256_S128x256_S128x256_S128x256_S128x256_S128x256_S1024x256_d0 rfl 128 rfl (ix2 k c)
    (⟨k.val / 128, by omega⟩ : Fin 8) rfl (ix2 (⟨k.val % 128, by omega⟩ : Fin 128) c) rfl
    (fun b hb => match b with | ⟨0, _⟩ => absurd rfl hb | ⟨1, _⟩ => rfl)

/-- A column tile read at an index: the old entry plus the sum, over the 1024 rows of the chunk, of the left factor times the
    masked right factor. -/
theorem tileOf_apply (v19 : BitVec 32) (v21 : Elt Ideal .i32) (f : Fin 8 → FVec Ideal S128x256 .bf16) (old : Vec Ideal S1280x256 .f32) (xt : Vec Ideal S1280x1024 .bf16)
    (r : Fin 1280) (c : Fin 256) :
    tileOf (k0_pay54 (F := Ideal) v19 v21) f old xt (ix2 r c)
      = old (ix2 r c) + ∑ k : Fin 1024, xt (ix2 r k) * (if (k.val : ℤ) < (Scalar.subi (w := 32) v21 v19).toInt
          then f (⟨k.val / 128, by omega⟩ : Fin 8) (ix2 (⟨k.val % 128, by omega⟩ : Fin 128) c) else (0 : EReal)) := by
  unfold tileOf
  simp only [matmul]
  rw [addf_apply, shapeCast_self]
  congr 1
  refine (Ideal.matmul_plain_apply (M := 1280) (K := 1024) (N := 256) none xt _ _ r c).trans ?_
  rw [show (constant S1280x256 .f32 0x00000000#32 : FVec Ideal S1280x256 .f32) (ix2 r c) = (0 : EReal) from Ideal.ofBits_zero_f32, zero_add]
  refine Finset.sum_congr rfl fun k _ => ?_
  congr 1
  rw [select_apply, mask_apply, stack_apply]
  congr 1
  show Ideal.ofBits .bf16 0x0000#16 = 0
  simp [Ideal.ofBits, Ideal.ieee]

/-- The piece of the output stored from column `c`: it holds the step's result at its own place. The eight groups are those
    loaded from the right factor's block, and `xt` is the left factor. -/
theorem opiece (arg6 : Memref sig .tc .vmem S1x1024x2816 .fp8e5m2) (harg6 : arg6.IsWhole) (arg7 : Memref sig .tc .vmem S1x8x2816 .f32) (harg7 : arg7.IsWhole)
    (arg8 : Memref sig .tc .vmem S1280x2816 .f32) (harg8 : arg8.IsWhole)
    (x1 : Vec Ideal S1x1024x1280 .fp8e4m3) (x2 : Vec Ideal S1x8x1280 .f32) (x3 : Vec Ideal S1x1024x2816 .fp8e5m2) (x4 : Vec Ideal S1x8x2816 .f32) (old : Vec Ideal S1280x2816 .f32)
    (v19 : BitVec 32) (v21 : Elt Ideal .i32) (xt : Vec Ideal S1280x1024 .bf16) (hxt : ∀ r k, xt (ix2 r k) = xtAt x1 x2 r k)
    (c : ℕ) (i8) (i7 : ∀ n : Fin 8, _) (i6 : ∀ n : Fin 8, _) (io)
    (y : (Rect.unit (s := S1280x2816) ![0, c] S1280x256.size io).shape.Idx) :
    tileOf (k0_pay54 (F := Ideal) v19 v21)
        (fun n => k0_pay55 (arg7.view.readAt (Elt Ideal) (Rect.unit (s := S1x8x2816) ![0, n.val, c] S1x1x256.size (i7 n)).toLoadRect (harg7.unread x4))
          (arg6.view.readAt (Elt Ideal) (Rect.unit (s := S1x1024x2816) ![0, 128 * n.val, c] S1x128x256.size (i6 n)).toLoadRect (harg6.unread x3)))
        (arg8.view.readAt (Elt Ideal) (Rect.unit (s := S1280x2816) ![0, c] S1280x256.size i8).toLoadRect (harg8.unread old)) xt y
      = stepAt (Scalar.subi (w := 32) v21 v19) x1 x2 x3 x4 old ((Rect.unit (s := S1280x2816) ![0, c] S1280x256.size io).emb y) := by
  obtain ⟨r, b, rfl⟩ : ∃ (r : Fin 1280) (b : Fin 256), y = ix2 r b := ⟨y 0, y 1, eq_ix2 y⟩
  have e0 := unit_emb_val _ _ io (ix2 r b) 0
  have e1 := unit_emb_val _ _ io (ix2 r b) 1
  change _ = 0 + r.val at e0
  change _ = c + b.val at e1
  have r0 : (Rect.unit (s := S1280x2816) ![0, c] S1280x256.size io).emb (ix2 r b) 0 = r := Fin.ext (by rw [e0, Nat.zero_add])
  refine (tileOf_apply _ _ _ _ _ r b).trans ?_
  unfold stepAt
  congr 1
  · rw [harg8.readAt_unread]
    rfl
  refine Finset.sum_congr rfl fun k _ => ?_
  rw [hxt, r0]
  congr 1
  unfold dyAt
  refine if_congr Iff.rfl ?_ rfl
  refine (dgroup_apply _ _ _ b).trans ?_
  rw [harg6.readAt_unread, harg7.readAt_unread]
  congr 2
  · funext ax
    apply Fin.ext
    rw [unit_idx_val]
    match ax with
    | ⟨0, _⟩ => rfl
    | ⟨1, _⟩ => show 128 * (k.val / 128) + k.val % 128 = k.val; omega
    | ⟨2, _⟩ => exact e1.symm
  · funext ax
    apply Fin.ext
    rw [unit_idx_val]
    match ax with
    | ⟨0, _⟩ => rfl
    | ⟨1, _⟩ => rfl
    | ⟨2, _⟩ => exact e1.symm

/-- Every store of a list holds the function `G` at the places it covers. -/
def Holds {s : Shape} {e : EltTy} (G : s.Idx → Elt Ideal e) (L : List (View.Piece (Elt Ideal) s e)) : Prop :=
  ∀ p ∈ L, ∀ x, p.2 x = G (p.1.emb x)

/-- No store holds anything wrong. -/
theorem Holds.nil {s : Shape} {e : EltTy} (G : s.Idx → Elt Ideal e) : Holds G ([] : List (View.Piece (Elt Ideal) s e)) :=
  fun _ h => absurd h List.not_mem_nil

/-- One more store that holds `G`. -/
theorem Holds.cons {s : Shape} {e : EltTy} {G : s.Idx → Elt Ideal e} {L : List (View.Piece (Elt Ideal) s e)} (p : View.Piece (Elt Ideal) s e)
    (hp : ∀ x, p.2 x = G (p.1.emb x)) (h : Holds G L) : Holds G (p :: L) := fun q hq => by
  rcases List.mem_cons.1 hq with rfl | hq
  · exact hp
  · exact h q hq

/-- The left factor as a vector. -/
def xtVec (x1 : Vec Ideal S1x1024x1280 .fp8e4m3) (x2 : Vec Ideal S1x8x1280 .f32) : Vec Ideal S1280x1024 .bf16 := fun z => xtAt x1 x2 (z 0) (z 1)

/-- One more store of the scratch: a group of 128 rows, 256 columns, scaled and transposed. -/
theorem xcons (arg4 : Memref sig .tc .vmem S1x1024x1280 .fp8e4m3) (harg4 : arg4.IsWhole) (arg5 : Memref sig .tc .vmem S1x8x1280 .f32) (harg5 : arg5.IsWhole)
    (x1 : Vec Ideal S1x1024x1280 .fp8e4m3) (x2 : Vec Ideal S1x8x1280 .f32)
    (L : List (View.Piece (Elt Ideal) S1280x1024 .bf16)) (r k : ℕ) (i5) (i4) (it) (hk : k = 128 * (k / 128))
    (w : (Rect.unit (s := S1280x1024) ![r, k] S256x128.size it).shape.Idx → Elt Ideal .bf16)
    (hw : w = k0_pay2 (arg5.view.readAt (Elt Ideal) (Rect.unit (s := S1x8x1280) ![0, k / 128, r] S1x1x256.size i5).toLoadRect (harg5.unread x2))
      (arg4.view.readAt (Elt Ideal) (Rect.unit (s := S1x1024x1280) ![0, k, r] S1x128x256.size i4).toLoadRect (harg4.unread x1)))
    (h : Holds (xtVec x1 x2) L) :
    Holds (xtVec x1 x2) (⟨Rect.unit (s := S1280x1024) ![r, k] S256x128.size it, w⟩ :: L) :=
  Holds.cons _ (fun x => by subst hw; exact xpiece arg4 harg4 arg5 harg5 x1 x2 r (k / 128) k i5 i4 it hk x) h

/-- A group's scales of a column tile lie within their block. -/
theorem inb_scale {c : ℕ} (hc : c + 256 ≤ 2816) (n : Fin 8) : ∀ a : Fin 3, (![0, n.val, c] : Fin 3 → ℕ) a + S1x1x256.size a ≤ S1x8x2816.size a := fun a =>
  match a with
  | ⟨0, _⟩ => Nat.le_refl 1
  | ⟨1, _⟩ => by show n.val + 1 ≤ 8; omega
  | ⟨2, _⟩ => hc

/-- A group's entries of a column tile lie within their block. -/
theorem inb_group {c : ℕ} (hc : c + 256 ≤ 2816) (n : Fin 8) : ∀ a : Fin 3, (![0, 128 * n.val, c] : Fin 3 → ℕ) a + S1x128x256.size a ≤ S1x1024x2816.size a := fun a =>
  match a with
  | ⟨0, _⟩ => Nat.le_refl 1
  | ⟨1, _⟩ => by show 128 * n.val + 128 ≤ 1024; omega
  | ⟨2, _⟩ => hc

/-- One more store of the output: a column tile. -/
theorem ocons (arg6 : Memref sig .tc .vmem S1x1024x2816 .fp8e5m2) (harg6 : arg6.IsWhole) (arg7 : Memref sig .tc .vmem S1x8x2816 .f32) (harg7 : arg7.IsWhole)
    (arg8 : Memref sig .tc .vmem S1280x2816 .f32) (harg8 : arg8.IsWhole)
    (x1 : Vec Ideal S1x1024x1280 .fp8e4m3) (x2 : Vec Ideal S1x8x1280 .f32) (x3 : Vec Ideal S1x1024x2816 .fp8e5m2) (x4 : Vec Ideal S1x8x2816 .f32) (old : Vec Ideal S1280x2816 .f32)
    (v19 : BitVec 32) (v21 : Elt Ideal .i32) (xt : Vec Ideal S1280x1024 .bf16) (hxt : ∀ r k, xt (ix2 r k) = xtAt x1 x2 r k)
    (L : List (View.Piece (Elt Ideal) S1280x2816 .f32)) (c : ℕ) (hc : c + 256 ≤ 2816) (io)
    (w : (Rect.unit (s := S1280x2816) ![0, c] S1280x256.size io).shape.Idx → Elt Ideal .f32)
    (hw : w = tileOf (k0_pay54 (F := Ideal) v19 v21)
        (fun n => k0_pay55 (arg7.view.readAt (Elt Ideal) (Rect.unit (s := S1x8x2816) ![0, n.val, c] S1x1x256.size (inb_scale hc n)).toLoadRect (harg7.unread x4))
          (arg6.view.readAt (Elt Ideal) (Rect.unit (s := S1x1024x2816) ![0, 128 * n.val, c] S1x128x256.size (inb_group hc n)).toLoadRect (harg6.unread x3)))
        (arg8.view.readAt (Elt Ideal) (Rect.unit (s := S1280x2816) ![0, c] S1280x256.size io).toLoadRect (harg8.unread old)) xt)
    (h : Holds (stepAt (Scalar.subi (w := 32) v21 v19) x1 x2 x3 x4 old) L) :
    Holds (stepAt (Scalar.subi (w := 32) v21 v19) x1 x2 x3 x4 old) (⟨Rect.unit (s := S1280x2816) ![0, c] S1280x256.size io, w⟩ :: L) :=
  Holds.cons _ (fun y => by subst hw; exact opiece arg6 harg6 arg7 harg7 arg8 harg8 x1 x2 x3 x4 old v19 v21 xt hxt c io (inb_scale hc) (inb_group hc) io y) h

/-- Stores that all hold `G` and between them cover the shape leave `G`, whatever was there before. -/
theorem Holds.read {κ : Kind} {sp : Space} {s : Shape} {e : EltTy} {G : s.Idx → Elt Ideal e} {L : List (View.Piece (Elt Ideal) s e)} (h : Holds G L)
    (hc : ∀ y : s.Idx, ∃ p ∈ L, y ∈ p.1.set) (v : View sig κ sp s e) (f : v.ty.Contents (Elt Ideal)) :
    v.read (Elt Ideal) (v.writes (Elt Ideal) f L) = G :=
  funext fun y => View.read_writes_apply_of_pieces v f G L h y (hc y)

end Cert.KernelIdeal.Body

end
-- ==== Proof.KernelIdeal.Value.lean ====
/- What a live step leaves, at the extended reals: the scratch holds the left factor, and the output block gains the product of
   the two factors. -/
module

public import proofs.«01_k».proof.Proof.Words
public import proofs.«01_k».proof.Proof.KernelIdeal.Tile
public import proofs.«01_k».proof.Proof.KernelIdeal.RunLive
public import proofs.«01_k».proof.Proof.KernelIdeal.RunLiveFirst

@[expose] public section

set_option maxRecDepth 16384

noncomputable section

namespace Cert.KernelIdeal.Body

open Idealize.ShloMosaic Idealize.ShloMosaic.TcCoe Idealize.ShloMosaic.Tactic
open Idealize.ShloMosaic.ValueIdx
open Cert.KernelIdeal.Gen

variable (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)
    (x0 : Vec Ideal S1280x2816 .f32) (x1 : Vec Ideal S1x1024x1280 .fp8e4m3) (x2 : Vec Ideal S1x8x1280 .f32) (x3 : Vec Ideal S1x1024x2816 .fp8e5m2) (x4 : Vec Ideal S1x8x2816 .f32) (xt0 : TbBuf0 (F := Ideal) c tbM0_0) (xo5 : Vec Ideal S1280x2816 .f32)

/-- How many rows of the point's chunk lie before the end of its sequence, as a word: the length minus the chunk's first row. -/
def limAt (i : grid0.Coords) (xt : TbBuf0 (F := Ideal) c tbM0_0) : BitVec 32 :=
  Scalar.subi (w := 32) (lenAt i xt) (Scalar.muli (Cert.Words.chunkWord (BitVec.ofNat 32 (i 1).val)) 1024#32)

set_option maxHeartbeats 1000000 in
/-- The 40 stores of the scratch hold the left factor. -/
theorem live_scratch : Holds (xtVec x1 x2) (live.sl.HS0_40 (F := Ideal) c arg4 harg4 arg5 harg5 x1 x2) := by
  unfold live.sl.HS0_40
  iterate 40 refine xcons arg4 harg4 arg5 harg5 x1 x2 _ _ _ (by trivial) (by trivial) _ (by decide) _ rfl ?_
  exact Holds.nil _

/-- The scratch read back is the left factor. -/
theorem live_xt (r : Fin 1280) (k : Fin 1024) : live.sl.v581 (F := Ideal) c arg4 harg4 arg5 harg5 arg9 x1 x2 (ix2 r k) = xtAt x1 x2 r k := by
  unfold live.sl.v581
  show arg9.view.read (Elt Ideal) (arg9.view.writes (Elt Ideal) _ (live.sl.HS0_40 (F := Ideal) c arg4 harg4 arg5 harg5 x1 x2)) _ = _
  rw [(live_scratch c arg4 harg4 arg5 harg5 x1 x2).read
    (View.cover_of_tiledL (live.sl.HS0_40 (F := Ideal) c arg4 harg4 arg5 harg5 x1 x2) S256x128.size (by sl_kernel_rfl))]
  have e0 := unit_idx_val (s := S1280x1024) ![0, 0] S1280x1024.size (by decide) (ix2 r k) 0
  have e1 := unit_idx_val (s := S1280x1024) ![0, 0] S1280x1024.size (by decide) (ix2 r k) 1
  show xtAt _ _ _ _ = _
  congr 1
  · exact Fin.ext (e0.trans (Nat.zero_add _))
  · exact Fin.ext (e1.trans (Nat.zero_add _))

set_option maxHeartbeats 400000 in
/-- The 11 stores of the output hold the step's result. -/
theorem live_out : Holds (stepAt (limAt c i xt0) x1 x2 x3 x4 xo5) (live (F := Ideal) c i arg3 harg3 arg4 harg4 arg5 harg5 arg6 harg6 arg7 harg7 arg8 harg8 arg9 harg9 x0 x1 x2 x3 x4 xt0 xo5).1 := by
  unfold live
  change Holds _ (_ :: _)
  iterate 11
    refine ocons arg6 harg6 arg7 harg7 arg8 harg8 x1 x2 x3 x4 xo5 (Scalar.muli (Cert.Words.chunkWord (BitVec.ofNat 32 (i 1).val)) 1024#32) (lenAt i xt0) _ (live_xt c arg4 harg4 arg5 harg5 arg9 x1 x2) _ _ (by decide) _ _ ?_ ?_
    · with_unfolding_all rfl
  exact Holds.nil _

/-- After a live step that is not the first of its band the output's buffer holds the step's result. -/
theorem live_read (f : arg8.view.ty.Contents (Elt Ideal)) :
    arg8.view.read (Elt Ideal) (arg8.view.writes (Elt Ideal) f (live (F := Ideal) c i arg3 harg3 arg4 harg4 arg5 harg5 arg6 harg6 arg7 harg7 arg8 harg8 arg9 harg9 x0 x1 x2 x3 x4 xt0 xo5).1)
      = stepAt (limAt c i xt0) x1 x2 x3 x4 xo5 :=
  (live_out c i arg3 harg3 arg4 harg4 arg5 harg5 arg6 harg6 arg7 harg7 arg8 harg8 arg9 harg9 x0 x1 x2 x3 x4 xt0 xo5).read
    (View.cover_of_tiledL (live (F := Ideal) c i arg3 harg3 arg4 harg4 arg5 harg5 arg6 harg6 arg7 harg7 arg8 harg8 arg9 harg9 x0 x1 x2 x3 x4 xt0 xo5).1 S1280x256.size (by sl_kernel_rfl)) arg8.view f

set_option maxHeartbeats 1000000 in
/-- The same 40 stores at the first point of a band. -/
theorem first_scratch : Holds (xtVec x1 x2) (live_first.sl.HS0_40 (F := Ideal) c arg4 harg4 arg5 harg5 x1 x2) := by
  unfold live_first.sl.HS0_40
  iterate 40 refine xcons arg4 harg4 arg5 harg5 x1 x2 _ _ _ (by trivial) (by trivial) _ (by decide) _ rfl ?_
  exact Holds.nil _

/-- The same scratch read back at the first point of a band. -/
theorem first_xt (r : Fin 1280) (k : Fin 1024) : live_first.sl.v581 (F := Ideal) c arg4 harg4 arg5 harg5 arg9 x1 x2 (ix2 r k) = xtAt x1 x2 r k := by
  unfold live_first.sl.v581
  show arg9.view.read (Elt Ideal) (arg9.view.writes (Elt Ideal) _ (live_first.sl.HS0_40 (F := Ideal) c arg4 harg4 arg5 harg5 x1 x2)) _ = _
  rw [(first_scratch c arg4 harg4 arg5 harg5 x1 x2).read
    (View.cover_of_tiledL (live_first.sl.HS0_40 (F := Ideal) c arg4 harg4 arg5 harg5 x1 x2) S256x128.size (by sl_kernel_rfl))]
  have e0 := unit_idx_val (s := S1280x1024) ![0, 0] S1280x1024.size (by decide) (ix2 r k) 0
  have e1 := unit_idx_val (s := S1280x1024) ![0, 0] S1280x1024.size (by decide) (ix2 r k) 1
  show xtAt _ _ _ _ = _
  congr 1
  · exact Fin.ext (e0.trans (Nat.zero_add _))
  · exact Fin.ext (e1.trans (Nat.zero_add _))

set_option maxHeartbeats 400000 in
/-- The 11 stores of the output at the first point of a band hold the step's result, the block before the step being the one
    copied in. -/
theorem first_out : Holds (stepAt (limAt c i xt0) x1 x2 x3 x4 x0) (live_first (F := Ideal) c i arg3 harg3 arg4 harg4 arg5 harg5 arg6 harg6 arg7 harg7 arg8 harg8 arg9 harg9 x0 x1 x2 x3 x4 xt0).1 := by
  unfold live_first
  change Holds _ (_ :: _)
  iterate 11
    refine ocons arg6 harg6 arg7 harg7 arg8 harg8 x1 x2 x3 x4 x0 (Scalar.muli (Cert.Words.chunkWord (BitVec.ofNat 32 (i 1).val)) 1024#32) (lenAt i xt0) _ (first_xt c arg4 harg4 arg5 harg5 arg9 x1 x2) _ _ (by decide) _ _ ?_ ?_
    · with_unfolding_all rfl
  exact Holds.nil _

/-- After a live step at the first point of its band the output's buffer holds the step's result. -/
theorem first_read (f : arg8.view.ty.Contents (Elt Ideal)) :
    arg8.view.read (Elt Ideal) (arg8.view.writes (Elt Ideal) f (live_first (F := Ideal) c i arg3 harg3 arg4 harg4 arg5 harg5 arg6 harg6 arg7 harg7 arg8 harg8 arg9 harg9 x0 x1 x2 x3 x4 xt0).1)
      = stepAt (limAt c i xt0) x1 x2 x3 x4 x0 :=
  (first_out c i arg3 harg3 arg4 harg4 arg5 harg5 arg6 harg6 arg7 harg7 arg8 harg8 arg9 harg9 x0 x1 x2 x3 x4 xt0).read
    (View.cover_of_tiledL (live_first (F := Ideal) c i arg3 harg3 arg4 harg4 arg5 harg5 arg6 harg6 arg7 harg7 arg8 harg8 arg9 harg9 x0 x1 x2 x3 x4 xt0).1 S1280x256.size (by sl_kernel_rfl)) arg8.view f

end Cert.KernelIdeal.Body

end
-- ==== Proof.KernelIdeal.Step.lean ====
/- The body's triple at any coordinates, at the extended reals: the four cases of its two conditions, the output's buffer told
   exactly. -/
module

public import proofs.«01_k».proof.Proof.KernelIdeal.RunDead
public import proofs.«01_k».proof.Proof.KernelIdeal.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

local notation "𝕄" => MT nD τ sig Unit (Elt Ideal) ℕ (UR sig nD τ) ℕ

/-- What a point makes of the output's buffer: at the first point of a band the buffer becomes the initial gradient, later it
    stays; then, if the chunk starts before the end of its sequence, it gains the chunk's product. -/
def stepOut (c : Dev nD) (i : grid0.Coords) (x0 : Vec Ideal S1280x2816 .f32) (x1 : Vec Ideal S1x1024x1280 .fp8e4m3) (x2 : Vec Ideal S1x8x1280 .f32)
    (x3 : Vec Ideal S1x1024x2816 .fp8e5m2) (x4 : Vec Ideal S1x8x2816 .f32) (xt0 : TbBuf0 (F := Ideal) c tbM0_0) (prev : Vec Ideal S1280x2816 .f32) : Vec Ideal S1280x2816 .f32 :=
  if k0_cond2 i (lenAt i xt0) = 1#1 then stepAt (limAt c i xt0) x1 x2 x3 x4 (if k0_cond1 i = 1#1 then x0 else prev)
  else if k0_cond1 i = 1#1 then x0 else prev

set_option maxHeartbeats 1000000 in
/-- The body's triple at any coordinates: on whole staging memrefs, the inputs' at their contents and the output's at `xo5`,
    the body runs, hands the inputs and the table's half back as they were and leaves the output's buffer at `stepOut`. -/
theorem run (c : Dev nD) (i : grid0.Coords) (arg3 : Memref sig .tc .vmem S1280x2816 .f32) (harg3 : arg3.IsWhole) (arg4 : Memref sig .tc .vmem S1x1024x1280 .fp8e4m3) (harg4 : arg4.IsWhole) (arg5 : Memref sig .tc .vmem S1x8x1280 .f32) (harg5 : arg5.IsWhole) (arg6 : Memref sig .tc .vmem S1x1024x2816 .fp8e5m2) (harg6 : arg6.IsWhole) (arg7 : Memref sig .tc .vmem S1x8x2816 .f32) (harg7 : arg7.IsWhole) (arg8 : Memref sig .tc .vmem S1280x2816 .f32) (harg8 : arg8.IsWhole) (arg9 : Memref sig .tc .vmem S1280x1024 .bf16) (harg9 : arg9.IsWhole)

    (x0 : Vec Ideal S1280x2816 .f32) (x1 : Vec Ideal S1x1024x1280 .fp8e4m3) (x2 : Vec Ideal S1x8x1280 .f32) (x3 : Vec Ideal S1x1024x2816 .fp8e5m2) (x4 : Vec Ideal S1x8x2816 .f32) (xt0 : TbBuf0 (F := Ideal) c tbM0_0) (xo5 : Vec Ideal S1280x2816 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (stepOut c i x0 x1 x2 x3 x4 xt0 xo5) ∗ (∃ d, owns (c : Thread nD τ) arg9 fullShare d) ∗ tbPt0 c tbM0_0 xt0) -∗ K ⟨⟩))
          ⊢ wp frame (wpE (defs₀ (F := Ideal)) Variants.none c none) E (cc0_wgrad i tbM0_0 htbM0_0 arg3 harg3 arg4 harg4 arg5 harg5 arg6 harg6 arg7 harg7 arg8 harg8 arg9 harg9) K := by
  intro E K
  unfold stepOut
  by_cases h0 : k0_cond1 i = 1#1 <;> by_cases h1 : k0_cond2 i (lenAt i xt0) = 1#1
  · rw [if_pos h1, if_pos h0]
    iintro ⟨H0, H1, H2, H3, H4, H5, HS0, HT0, Hk⟩
    iapply ((live_first (F := Ideal) c i arg3 harg3 arg4 harg4 arg5 harg5 arg6 harg6 arg7 harg7 arg8 harg8 arg9 harg9 x0 x1 x2 x3 x4 xt0).2.2 h0 h1 E K)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iintro ⟨H0, H1, H2, H3, H4, ⟨%f5, H5⟩, ⟨%fs, HS0⟩, HT0⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro; exact first_read c i arg3 harg3 arg4 harg4 arg5 harg5 arg6 harg6 arg7 harg7 arg8 harg8 arg9 harg9 x0 x1 x2 x3 x4 xt0 f5
    isplitl [HS0]
    · unfold owns; iexists _, _; isplitr; swap; · iexact HS0
      ipureintro; rfl
    iexact HT0
  · rw [if_neg h1, if_pos h0]
    iintro ⟨H0, H1, H2, H3, H4, H5, HS0, HT0, Hk⟩
    iapply (run_dead_first (F := Ideal) c i arg3 harg3 arg4 harg4 arg5 harg5 arg6 harg6 arg7 harg7 arg8 harg8 arg9 harg9 x0 x1 x2 x3 x4 xt0 h0 h1 E K)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HT0]; · iexact HT0
    iexact Hk
  · rw [if_pos h1, if_neg h0]
    iintro ⟨H0, H1, H2, H3, H4, H5, HS0, HT0, Hk⟩
    iapply ((live (F := Ideal) c i arg3 harg3 arg4 harg4 arg5 harg5 arg6 harg6 arg7 harg7 arg8 harg8 arg9 harg9 x0 x1 x2 x3 x4 xt0 xo5).2.2 h0 h1 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HT0]; · iexact HT0
    iintro ⟨H0, H1, H2, H3, H4, ⟨%f5, H5⟩, ⟨%fs, HS0⟩, HT0⟩
    iapply Hk
    isplitl [H0]; · iexact H0
    isplitl [H1]; · iexact H1
    isplitl [H2]; · iexact H2
    isplitl [H3]; · iexact H3
    isplitl [H4]; · iexact H4
    isplitl [H5]
    · unfold owns; iexists _; isplitr; swap; · iexact H5
      ipureintro; exact live_read c i arg3 harg3 arg4 harg4 arg5 harg5 arg6 harg6 arg7 harg7 arg8 harg8 arg9 harg9 x0 x1 x2 x3 x4 xt0 xo5 f5
    isplitl [HS0]
    · unfold owns; iexists _, _; isplitr; swap; · iexact HS0
      ipureintro; rfl
    iexact HT0
  · rw [if_neg h1, if_neg h0]
    exact run_dead_later (F := Ideal) c i arg3 harg3 arg4 harg4 arg5 harg5 arg6 harg6 arg7 harg7 arg8 harg8 arg9 harg9 x0 x1 x2 x3 x4 xt0 xo5 h0 h1 E K

end Cert.KernelIdeal.Body

end
-- ==== Proof.KernelIdeal.Frame.lean ====
/- The run of `KernelIdeal` at the extended reals, exact: from any memory with zero counters the program terminates, leaves
   its arguments unchanged and every semaphore counter at zero, and its output's array holds what the points, in order,
   make of it (`outsAt`). Stated for every contents of the lengths table the region admits (`Ok`). -/
module

public import proofs.«01_k».proof.Proof.KernelIdeal.Step
public import Idealize.ShloMosaic.Lib.Pipeline.TableIdle
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- What the output's buffer holds after the body at point `n`: the points before it folded by `stepOut`. (What the first
    point starts from does not matter: it overwrites it.) -/
def outsAt (hO : Ok m) (c : Dev nD) : (n : ℕ) → n < (cfgM m hO).N → Vec Ideal S1280x2816 .f32
  | 0, h => stepOut c (grid0.coords ⟨0, h⟩) (iblk m hO c 0 ⟨0, h⟩) (iblk m hO c 1 ⟨0, h⟩) (iblk m hO c 2 ⟨0, h⟩) (iblk m hO c 3 ⟨0, h⟩) (iblk m hO c 4 ⟨0, h⟩) (tbl m 0) (fun _ => (0 : EReal))
  | n + 1, h => stepOut c (grid0.coords ⟨n + 1, h⟩) (iblk m hO c 0 ⟨n + 1, h⟩) (iblk m hO c 1 ⟨n + 1, h⟩) (iblk m hO c 2 ⟨n + 1, h⟩) (iblk m hO c 3 ⟨n + 1, h⟩) (iblk m hO c 4 ⟨n + 1, h⟩) (tbl m 0) (outsAt hO c n (Nat.lt_of_succ_lt h))

/-- The body's first condition holds at the points ≡ 0 (mod 128): the first point of each band. -/
theorem first_iff : ∀ t : Fin grid0.N, k0_cond1 (grid0.coords t) = 1#1 ↔ t.val % 128 = 0 :=
  (fun t => by
    have ht : t.val < 256 := Nat.lt_of_lt_of_eq t.isLt N_0
    have e1 : (grid0.coords t 1).val = t.val / 1 % 128 := Pipeline.Grid.coords_val t 1 (by decide) rfl
    simp only [k0_cond1, e1]
    word_cmp
   : ∀ t : Fin grid0.N, k0_cond1 (grid0.coords t) = 1#1 ↔ t.val % 128 = 0)

/-- At a band's first point what the buffer held does not matter. -/
theorem stepOut_first {c : Dev nD} {i : grid0.Coords} {x0 x1 x2 x3 x4 xt0} (p q : Vec Ideal S1280x2816 .f32) (h : k0_cond1 i = 1#1) :
    stepOut c i x0 x1 x2 x3 x4 xt0 p = stepOut c i x0 x1 x2 x3 x4 xt0 q := by
  unfold stepOut; simp only [if_pos h]

/-- At a point of neither condition the buffer keeps what it held. -/
theorem stepOut_idle {c : Dev nD} {i : grid0.Coords} {x0 x1 x2 x3 x4 xt0} (p : Vec Ideal S1280x2816 .f32) (h : k0_cond1 i ≠ 1#1)
    (h2 : k0_cond2 i (lenAt i xt0) ≠ 1#1) : stepOut c i x0 x1 x2 x3 x4 xt0 p = p := by
  unfold stepOut; rw [if_neg h2, if_neg h]

/-- A point's contents from any contents `d` before it, told of the point before when the point is not a band's first. -/
theorem outsAt_of (hO : Ok m) (c : Dev nD) (t : Fin (cfgM m hO).N) (d : Vec Ideal S1280x2816 .f32)
    (hd : ∀ _ : t.val % 128 ≠ 0, d = outsAt m hO c (t.val - 1) (by have := t.isLt; omega)) :
    outsAt m hO c t.val t.isLt = stepOut c (grid0.coords t) (iblk m hO c 0 t) (iblk m hO c 1 t) (iblk m hO c 2 t) (iblk m hO c 3 t) (iblk m hO c 4 t) (tbl m 0) d := by
  by_cases h0 : t.val % 128 = 0
  · have hc := (first_iff t).mpr h0
    obtain ⟨n, hn⟩ := t
    cases n with
    | zero => exact stepOut_first _ _ hc
    | succ n => exact stepOut_first _ _ hc
  · obtain ⟨n, hn⟩ := t
    cases n with
    | zero => exact absurd rfl h0
    | succ n => rw [hd h0]; rfl

/-- The word the idle table reads at coordinates `i` is the word the body loads. -/
theorem atD_eq (c : Dev nD) (i : grid0.Coords) : (tbl m).atD 0 (k0_off1 i) = lenAt i (tbl m 0) := by
  unfold Pipeline.Prefetch.Contents.atD
  split
  · exact congrArg (tbl m 0) (funext fun a => Fin.ext (by rfl))
  · next h => exact (h fun (a : Fin 1) => by obtain rfl := Subsingleton.elim a 0; exact k0_off1_inb i 0).elim

/-- The proof data of the one pipeline on core `c`: the arrays as the region finds them (`V`); after the body at
    point `t` each input's buffer at its block and the output's at `outsAt`; the invariant the class's
    (Lib/Pipeline/Frame.lean `ΦA`: the scoped rest and the generator register) and the tables' halves (`ΦT`); nothing owed;
    full shares. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outsAt m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outsAt m hO c t.val t.isLt := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- A point idle for the output's window is not a band's first, and its chunk is past the end of its sequence. -/
theorem idle_elim (hO : Ok m) (t : Fin (cfgM m hO).N) (h : (cfgM m hO).idle 5 ((cfgM m hO).grid.coords t) = true) :
    t.val % 128 ≠ 0 ∧ k0_cond2 (grid0.coords t) (lenAt (grid0.coords t) (tbl m 0)) ≠ 1#1 := by
  have h' : (!(k0_cond1 (grid0.coords t) == 1#1) && !(k0_cond2 (grid0.coords t) ((tbl m).atD 0 (k0_off1 (grid0.coords t))) == 1#1)) = true := h
  rw [atD_eq m (0 : Dev nD)] at h'
  simp only [Bool.and_eq_true, Bool.not_eq_true', beq_eq_false_iff_ne] at h'
  exact ⟨fun h0 => h'.1 ((first_iff t).mpr h0), h'.2⟩

/-- The output's buffer holds nothing of the current band at the points ≡ 0 (mod 128) only. -/
theorem fresh0_5 (hO : Ok m) : ∀ n, n ≤ (cfgM m hO).N → (cfgM m hO).fresh 5 n = decide (n % 128 = 0) :=
  Pipeline.Cfg.fresh_tab _ 5 (fun n => decide (n % 128 = 0)) rfl fun t => by
    have hf := flush0_5 (adm m hO) t
    by_cases h : t.val % 128 = 127
    · rw [hf.mpr h, Bool.true_or, decide_eq_true_iff]; omega
    · rw [Bool.eq_false_iff.mpr fun h' => h (hf.mp h'), Bool.false_or]
      rw [decide_eq_false (by omega)]
      symm
      rw [Bool.and_eq_false_iff]
      by_cases hi : (cfgM m hO).idle 5 ((cfgM m hO).grid.coords t) = true
      · exact .inr (decide_eq_false (idle_elim m hO t hi).1)
      · exact .inl (Bool.eq_false_iff.mpr hi)

/-- At a point idle for the output's window the buffer keeps what the point before left. -/
theorem carry0_5 (hO : Ok m) (c : Dev nD) (t : Fin (cfgM m hO).N) (h0 : t.val ≠ 0)
    (hi : (cfgM m hO).idle 5 ((cfgM m hO).grid.coords t) = true) :
    (dats m hO 0 c).after 5 t = (dats m hO 0 c).after 5 ⟨t.val - 1, by have := t.isLt; omega⟩ := by
  obtain ⟨h1, h2⟩ := idle_elim m hO t hi
  rw [after0_5, after0_5, outsAt_of m hO c t _ fun _ => rfl]
  exact stepOut_idle _ (fun h => h1 ((first_iff t).mp h)) h2

/-- What the body finds in the output's buffer: anything at a band's first point, else what the point before left. -/
theorem before0_5 (hO : Ok m) (c : Dev nD) (t : Fin (cfgM m hO).N) (d) (h : t.val % 128 ≠ 0) :
    (dats m hO 0 c).before 5 t d = outsAt m hO c (t.val - 1) (by have := t.isLt; omega) := by
  rw [(dats m hO 0 c).before_out_traj 5 rfl (fun _ _ => rfl) (fun t h0 hi _ => carry0_5 m hO c t h0 hi) t.val t rfl d,
    fresh0_5 m hO t.val (Nat.le_of_lt t.isLt), decide_eq_false h, if_neg Bool.false_ne_true, after0_5]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`), so `run` applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩⟩
  rw [outsAt_of m hO c t _ fun h => before0_5 m hO c t d5 h]
  iapply (run c (grid0.coords t) _ (hs0_0 m hO t) _ (hs0_1 m hO t) _ (hs0_2 m hO t) _ (hs0_3 m hO t) _ (hs0_4 m hO t) _ (hs0_5 m hO t) _ (Memref.isWhole_whole _) (iblk m hO c 0 t) (iblk m hO c 1 t) (iblk m hO c 2 t) (iblk m hO c 3 t) (iblk m hO c 4 t) (tbl m 0) ((dats m hO 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HT0]; · iexact HT0
  iintro ⟨H0, H1, H2, H3, H4, H5, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- What the pipeline asks of the output's buffer after a point, from what the body leaves: at an idle point the body finds
    what it leaves. -/
theorem post0_5 (hO : Ok m) (c : Dev nD) (t : Fin (cfgM m hO).N) :
    owns (c : Thread nD τ) (ms0_5 m hO t) fullShare ((dats m hO 0 c).after 5 t)
      ⊢ (match (cfgM m hO).idle 5 ((cfgM m hO).grid.coords t) with
        | true => match ((cfgM m hO).win 5).flush t with
          | false => iprop(∃ d, owns (c : Thread nD τ) (ms0_5 m hO t) fullShare ((dats m hO 0 c).before 5 t d))
          | true => owns (c : Thread nD τ) (ms0_5 m hO t) fullShare ((dats m hO 0 c).after 5 t)
        | false => owns (c : Thread nD τ) (ms0_5 m hO t) fullShare ((dats m hO 0 c).after 5 t) : sProp 𝕄) := by
  cases hi : (cfgM m hO).idle 5 ((cfgM m hO).grid.coords t)
  · exact .rfl
  · cases hf : ((cfgM m hO).win 5).flush t
    · have h1 := (idle_elim m hO t hi).1
      have e : (dats m hO 0 c).after 5 t = (dats m hO 0 c).before 5 t (fun _ => (0 : EReal)) := by
        exact (carry0_5 m hO c t (fun h => h1 (by rw [h])) hi).trans ((after0_5 m hO c _).trans (before0_5 m hO c t _ h1).symm)
      rw [e]
      iintro H; iexists _; iexact H
    · exact .rfl

/-- The library's body obligation, at every point: the body's triple restated (Lib/Pipeline/FrameBody.lean `triple_restated`). -/
theorem body_obligation (hO : Ok m) (c : Dev nD) : BodyObligation (dats m hO 0 c) (defs₀ (F := Ideal)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (sep_mono .rfl (sep_mono .rfl (post0_5 m hO c t)))))))

/-! ## The run and the frame -/

-- `θ_run_frameP`'s implicit arguments are found by unifying its conclusion with this one, which takes unfolding plain
-- definitions in a metavariable's type
set_option backward.isDefEq.respectTransparency.types false in
/-- The launch: every execution terminates with every array of the pipeline at what the proof data says, every other
    unscoped buffer unchanged, and every semaphore counter at zero. -/
theorem run_main_quiescent (hO : Ok m) : θ_run defs (onTc (τ := τ) (main (F := Ideal))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- `run_main_quiescent` without the counters. -/
theorem run_main (hO : Ok m) : θ_run defs (onTc (τ := τ) (main (F := Ideal))) (s₀ m ρ) (Pipeline.FramePost (Pipeline.pin pcfgs fun _ => adm m hO) (dats m hO) 0 (V m)) :=
  (θ_run defs _ _).mono (fun _ h => h.1) (run_main_quiescent m ρ hO)

/-- Every execution ends with the output's array at what the write-backs leave of it (`Dat.arrAt`) and the argument arrays
    unchanged. -/
theorem ends (hO : Ok m) : θ_run defs (onTc (τ := τ) (main (F := Ideal))) ⟨m, fun _ => 0, ρ⟩ (fun r => ∀ c : Dev nD,
      r.2.mem ((c.tc : Thread nD τ).loc main_v0) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 5,
      ((h c).1 1).trans (((dats m hO 0 c).arrAt_in 1 rfl _).trans ((A_eq m hO c 1).trans (V_main_arg0 m c))),
      ((h c).1 2).trans (((dats m hO 0 c).arrAt_in 2 rfl _).trans ((A_eq m hO c 2).trans (V_main_arg1 m c))),
      ((h c).1 3).trans (((dats m hO 0 c).arrAt_in 3 rfl _).trans ((A_eq m hO c 3).trans (V_main_arg2 m c))),
      ((h c).1 4).trans (((dats m hO 0 c).arrAt_in 4 rfl _).trans ((A_eq m hO c 4).trans (V_main_arg3 m c))),
      ((h c).1 0).trans (((dats m hO 0 c).arrAt_in 0 rfl _).trans ((A_eq m hO c 0).trans (V_main_arg4 m c))),
      ((h c).2 main_arg5 (by decide : main_arg5 ∈ Pipeline.restRefs sig spec0)).trans (V_main_arg5 m c)⟩) (run_main m ρ hO)

/-- The frame claim's statement at the extended reals, for every contents of the lengths table the region admits:
    the argument arrays end unchanged and every semaphore counter ends at zero. -/
theorem frame (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2) (ends m ρ hO)) ((θ_run defs _ _).mono (fun _ h => h.2) (run_main_quiescent m ρ hO))

end Cert.KernelIdeal.Body

end
-- ==== Proof.KernelIdeal.Tables.lean ====
/- The windows of `KernelIdeal` whose index maps read the lengths table: which block each fetches at a grid point, and that the
   block is inside its array whatever lengths the table holds. -/
module

public import proofs.«01_k».proof.Proof.KernelIdeal.Region
public import proofs.«01_k».proof.Proof.Words

@[expose] public section

set_option maxRecDepth 16384

noncomputable section

namespace Cert.KernelIdeal.Body

open Idealize.ShloMosaic Idealize.ShloMosaic.TcCoe
open Cert.KernelIdeal.Gen

variable {F : FTy → Type} [FloatOps F]

/-- The length the index maps read at coordinates `i`. -/
def lenPf (pf : pre0.Contents (Elt F)) (i : grid0.Coords) : BitVec 32 :=
  pf.at 0 (Rect.unit (s := S16) (k0_off1 i) S1.size (k0_off1_inb i)) numel1_S1

/-- The sequence of a point is one of the sixteen. -/
theorem seq_toNat (i : grid0.Coords) : (Words.seqWord (BitVec.ofNat 32 (i 1).val)).toNat = (i 1).val / 8 :=
  Words.seqWord_toNat ⟨(i 1).val, (i 1).isLt⟩

/-- The first grid coordinate (the band of columns of the left factor) is itself as an index. -/
theorem band_toNat (i : grid0.Coords) : (BitVec.ofNat 32 (i 0).val).toNat = (i 0).val := by
  have h : (i 0).val < 2 := (i 0).isLt
  rw [BitVec.toNat_ofNat]; omega

/-- The chunk fetched at a point, as a number: at most 7. -/
def chunk (pf : pre0.Contents (Elt F)) (i : grid0.Coords) : Nat :=
  (Words.fetchWord (BitVec.ofNat 32 (i 1).val) (lenPf pf i)).toNat

theorem chunk_le (pf : pre0.Contents (Elt F)) (i : grid0.Coords) : chunk pf i ≤ 7 :=
  Words.fetchWord_le ⟨(i 1).val, (i 1).isLt⟩ _

/-- Window 1 fetches the point's sequence, the chunk, the point's band. -/
theorem index_1 (pf : pre0.Contents (Elt F)) (i : grid0.Coords) :
    cc0_transform_1 k0_off1_inb numel1_S1 pf i = ![(i 1).val / 8, chunk pf i, (i 0).val] := by
  rw [← seq_toNat, ← band_toNat i]; rfl
/-- Window 2 likewise. -/
theorem index_2 (pf : pre0.Contents (Elt F)) (i : grid0.Coords) :
    cc0_transform_2 k0_off1_inb numel1_S1 pf i = ![(i 1).val / 8, chunk pf i, (i 0).val] := by
  rw [← seq_toNat, ← band_toNat i]; rfl
/-- Window 3 fetches the point's sequence and the chunk, all columns. -/
theorem index_3 (pf : pre0.Contents (Elt F)) (i : grid0.Coords) :
    cc0_transform_3 k0_off1_inb numel1_S1 pf i = ![(i 1).val / 8, chunk pf i, 0] := by
  rw [← seq_toNat]; rfl
/-- Window 4 likewise. -/
theorem index_4 (pf : pre0.Contents (Elt F)) (i : grid0.Coords) :
    cc0_transform_4 k0_off1_inb numel1_S1 pf i = ![(i 1).val / 8, chunk pf i, 0] := by
  rw [← seq_toNat]; rfl

/-- A block of three axes is inside its array when each axis is. -/
theorem inb3 {x y z a b c A B C : Nat} (h0 : (x + 1) * a ≤ A) (h1 : (y + 1) * b ≤ B) (h2 : (z + 1) * c ≤ C) :
    ∀ k : Fin 3, ((![x, y, z] : Fin 3 → Nat) k + 1) * (![a, b, c] : Fin 3 → Nat) k ≤ (![A, B, C] : Fin 3 → Nat) k := by
  intro k; fin_cases k
  · exact h0
  · exact h1
  · exact h2

/-- Whatever the tables hold, every block fetched is inside its array and made of whole words. -/
theorem ok_any (pf : pre0.Contents (Elt F)) : ok0 pf := by
  refine ⟨fun i => ?_, fun i => ?_, fun i => ?_, fun i => ?_⟩ <;>
    (have hc := chunk_le pf i
     have h0 : (i 0).val < 2 := (i 0).isLt
     have h1 : (i 1).val < 128 := (i 1).isLt)
  · refine ⟨?_, .inr (Affine.block_words_dvd (by decide) (by decide))⟩
    rw [index_1]; exact inb3 (by omega) (by omega) (by omega)
  · refine ⟨?_, .inl rfl⟩
    rw [index_2]; exact inb3 (by omega) (by omega) (by omega)
  · refine ⟨?_, .inr (Affine.block_words_dvd (by decide) (by decide))⟩
    rw [index_3]; exact inb3 (by omega) (by omega) (by omega)
  · refine ⟨?_, .inl rfl⟩
    rw [index_4]; exact inb3 (by omega) (by omega) (by omega)

/-- The pipeline's side condition holds of the tables every memory has. -/
theorem ok (m : (ℓ : Loc nD τ sig) → Buf (Elt F) ℓ) : Ok m := ok_any (tbl m)

end Cert.KernelIdeal.Body

end
-- ==== Proof.Spec.lean ====
/- The problem's mathematics over plain numbers: a token's outer-product term at one element of the gradient, and the sum of
   all tokens' terms, split the two ways the two programs split it. -/
module

public import Idealize.ShloMosaic.PureOps.Ideal.Laws

@[expose] public section

noncomputable section

namespace Cert.Spec

/-- A sum over `a * b` numbers, as `a` runs of `b`. -/
theorem sum_split {M : Type} [AddCommMonoid M] {N : ℕ} (a b : ℕ) (h : N = a * b) (f : Fin N → M)
    (hb : ∀ (i : Fin a) (j : Fin b), b * i.val + j.val < N) :
    ∑ n, f n = ∑ i : Fin a, ∑ j : Fin b, f ⟨b * i.val + j.val, hb i j⟩ := by
  subst h
  rw [← Equiv.sum_comp finProdFinEquiv, Fintype.sum_prod_type]
  refine Finset.sum_congr rfl fun i _ => Finset.sum_congr rfl fun j _ => congrArg f (Fin.ext ?_)
  rw [finProdFinEquiv_apply_val]; exact Nat.add_comm _ _

/-- The term of token `s` of sequence `q` at row `o`, column `p`: the scaled left element times the scaled right one, and
    zero from the sequence's length on. -/
def term (x : Fin 16 → Fin 8192 → Fin 2560 → EReal) (xs : Fin 16 → Fin 64 → Fin 2560 → EReal)
    (y : Fin 16 → Fin 8192 → Fin 2816 → EReal) (ys : Fin 16 → Fin 64 → Fin 2816 → EReal) (len : Fin 16 → BitVec 32)
    (o : Fin 2560) (p : Fin 2816) (q : Fin 16) (s : Fin 8192) : EReal :=
  if (s.val : ℤ) < (len q).toInt then
    (x q s o * xs q ⟨s.val / 128, by omega⟩ o) * (y q s p * ys q ⟨s.val / 128, by omega⟩ p)
  else 0

/-- All sequences, each in 8 chunks of 1024 tokens, counted as 128 steps. -/
theorem sum_steps (f : Fin 16 → Fin 8192 → EReal) :
    ∑ n : Fin 128, ∑ k : Fin 1024, f ⟨n.val / 8, by omega⟩ ⟨1024 * (n.val % 8) + k.val, by omega⟩ = ∑ q, ∑ s, f q s := by
  rw [sum_split 16 8 rfl _ (by omega)]
  refine Finset.sum_congr rfl fun q _ => ?_
  rw [sum_split 8 1024 rfl (f q) (by omega)]
  refine Finset.sum_congr rfl fun i _ => Finset.sum_congr rfl fun k _ => ?_
  exact congrArg₂ f (Fin.ext (show (8 * q.val + i.val) / 8 = q.val by omega))
    (Fin.ext (show 1024 * ((8 * q.val + i.val) % 8) + k.val = 1024 * i.val + k.val by omega))

/-- All sequences, each in 64 groups of 128 tokens. -/
theorem sum_groups (f : Fin 16 → Fin 8192 → EReal) :
    ∑ q : Fin 16, ∑ g : Fin 64, ∑ t : Fin 128, f q ⟨128 * g.val + t.val, by omega⟩ = ∑ q, ∑ s, f q s :=
  Finset.sum_congr rfl fun q _ => (sum_split 64 128 rfl (f q) (by omega)).symm

end Cert.Spec

end
-- ==== Proof.KernelIdeal.Blocks.lean ====
/- What each window's block holds at a grid point, as elements of the arguments' arrays, at the extended reals: the arrays at
   plain numbers, the two coordinates of a point, and the length a point reads. -/
module

public import proofs.«01_k».proof.Proof.KernelIdeal.Frame
public import proofs.«01_k».proof.Proof.KernelIdeal.Tables
public import proofs.«01_k».proof.Proof.Spec

@[expose] public section

set_option maxRecDepth 16384

noncomputable section

namespace Cert.KernelIdeal.Body

open Idealize.ShloMosaic Idealize.ShloMosaic.TcCoe Idealize.ShloMosaic.ValueIdx
open Cert.KernelIdeal.Gen

variable (m : (ℓ : Loc nD τ sig) → Buf (Elt Ideal) ℓ) (c : Dev nD)

/-! ## The arguments at plain numbers -/

/-- The left factor, its scales, the right factor, its scales, the initial gradient and the lengths, element by element. -/
def a0 (q : Fin 16) (s : Fin 8192) (o : Fin 2560) : EReal := (m ((c : Thread nD τ).loc main_arg0) : S16x8192x2560.Idx → EReal) (ix3 q s o)
@[inherit_doc a0] def a1 (q : Fin 16) (g : Fin 64) (o : Fin 2560) : EReal := (m ((c : Thread nD τ).loc main_arg1) : S16x64x2560.Idx → EReal) (ix3 q g o)
@[inherit_doc a0] def a2 (q : Fin 16) (s : Fin 8192) (p : Fin 2816) : EReal := (m ((c : Thread nD τ).loc main_arg2) : S16x8192x2816.Idx → EReal) (ix3 q s p)
@[inherit_doc a0] def a3 (q : Fin 16) (g : Fin 64) (p : Fin 2816) : EReal := (m ((c : Thread nD τ).loc main_arg3) : S16x64x2816.Idx → EReal) (ix3 q g p)
@[inherit_doc a0] def a4 (o : Fin 2560) (p : Fin 2816) : EReal := (m ((c : Thread nD τ).loc main_arg4) : S2560x2816.Idx → EReal) (ix2 o p)
@[inherit_doc a0] def a5 (q : Fin 16) : BitVec 32 := (m ((c : Thread nD τ).loc main_arg5) : S16.Idx → BitVec 32) (ix1 q)

/-! ## A point's coordinates and length -/

theorem lt_N (t : Fin grid0.N) : t.val < 256 := Nat.lt_of_lt_of_eq t.isLt N_0

/-- The band of a point, -/
theorem coord_0 (t : Fin grid0.N) : (grid0.coords t 0).val = t.val / 128 := by
  have h : (grid0.coords t 0).val = t.val / 128 % 2 := Pipeline.Grid.coords_val t 0 (by decide) rfl
  have := lt_N t
  omega
/-- and its step within the band. -/
theorem coord_1 (t : Fin grid0.N) : (grid0.coords t 1).val = t.val % 128 := by
  have h : (grid0.coords t 1).val = t.val / 1 % 128 := Pipeline.Grid.coords_val t 1 (by decide) rfl
  omega

/-- The length a point reads is its sequence's. -/
theorem lenAt_eq (i : grid0.Coords) (hq : (i 1).val / 8 < 16) : lenAt (F := Ideal) i (tbl m 0) = a5 m c ⟨(i 1).val / 8, hq⟩ := by
  obtain rfl : c = 0 := Subsingleton.elim _ _
  unfold lenAt a5
  refine congrArg (m (((0 : Dev nD) : Thread nD τ).loc main_arg5) : S16.Idx → BitVec 32) (funext fun a => Fin.ext ?_)
  obtain rfl : a = (0 : Fin 1) := Subsingleton.elim (α := Fin 1) a 0
  show k0_off1 i 0 + 1 * 0 = (i 1).val / 8
  rw [← seq_toNat i]; rfl

/-- The index maps read the same length. -/
theorem lenPf_eq (i : grid0.Coords) : lenPf (F := Ideal) (tbl m) i = lenAt i (tbl m 0) := by rfl

/-! ## The blocks -/

variable (hO : Ok m)

/-- The initial gradient's block: the point's band of rows. -/
theorem iblk_0 (t : Fin (cfgM m hO).N) (y : S1280x2816.Idx) (o : Fin 2560) (ho : o.val = 1280 * (t.val / 128) + (y 0).val) :
    (iblk m hO c 0 t : S1280x2816.Idx → EReal) y = a4 m c o (y 1) := by
  refine congrArg (m ((c : Thread nD τ).loc main_arg4) : S2560x2816.Idx → EReal) (funext fun a => Fin.ext ?_)
  refine (Pipeline.Window.rect_emb_val ((cfgM m hO).win 0) t y a rfl).trans ?_
  have e : ((cfgM m hO).win 0).index t = ![(grid0.coords t 0).val, 0] := by rw [← band_toNat (grid0.coords t)]; rfl
  rw [e, coord_0]
  fin_cases a
  · show t.val / 128 * 1280 + (y 0).val = o.val; omega
  · show 0 * 2816 + (y 1).val = (y 1).val; omega

/-- The left factor's block: the point's sequence, the chunk fetched, the band of columns. -/
theorem iblk_1 (t : Fin (cfgM m hO).N) (k : Fin 1024) (r : Fin 1280) (q : Fin 16) (s : Fin 8192) (o : Fin 2560)
    (hq : q.val = t.val % 128 / 8) (hs : s.val = 1024 * chunk (tbl m) (grid0.coords t) + k.val) (ho : o.val = 1280 * (t.val / 128) + r.val) :
    (iblk m hO c 1 t : S1x1024x1280.Idx → EReal) (ix3 0 k r) = a0 m c q s o := by
  refine congrArg (m ((c : Thread nD τ).loc main_arg0) : S16x8192x2560.Idx → EReal) (funext fun a => Fin.ext ?_)
  refine (Pipeline.Window.rect_emb_val ((cfgM m hO).win 1) t (ix3 0 k r) a rfl).trans ?_
  have e : ((cfgM m hO).win 1).index t = ![(grid0.coords t 1).val / 8, chunk (tbl m) (grid0.coords t), (grid0.coords t 0).val] := index_1 (tbl m) (grid0.coords t)
  rw [e, coord_0, coord_1]
  fin_cases a
  · show t.val % 128 / 8 * 1 + 0 = q.val; omega
  · show chunk (tbl m) (grid0.coords t) * 1024 + k.val = s.val; omega
  · show t.val / 128 * 1280 + r.val = o.val; omega

/-- The left factor's scales' block likewise. -/
theorem iblk_2 (t : Fin (cfgM m hO).N) (k : Fin 8) (r : Fin 1280) (q : Fin 16) (s : Fin 64) (o : Fin 2560)
    (hq : q.val = t.val % 128 / 8) (hs : s.val = 8 * chunk (tbl m) (grid0.coords t) + k.val) (ho : o.val = 1280 * (t.val / 128) + r.val) :
    (iblk m hO c 2 t : S1x8x1280.Idx → EReal) (ix3 0 k r) = a1 m c q s o := by
  refine congrArg (m ((c : Thread nD τ).loc main_arg1) : S16x64x2560.Idx → EReal) (funext fun a => Fin.ext ?_)
  refine (Pipeline.Window.rect_emb_val ((cfgM m hO).win 2) t (ix3 0 k r) a rfl).trans ?_
  have e : ((cfgM m hO).win 2).index t = ![(grid0.coords t 1).val / 8, chunk (tbl m) (grid0.coords t), (grid0.coords t 0).val] := index_2 (tbl m) (grid0.coords t)
  rw [e, coord_0, coord_1]
  fin_cases a
  · show t.val % 128 / 8 * 1 + 0 = q.val; omega
  · show chunk (tbl m) (grid0.coords t) * 8 + k.val = s.val; omega
  · show t.val / 128 * 1280 + r.val = o.val; omega

/-- The right factor's block: the point's sequence, the chunk fetched, all columns. -/
theorem iblk_3 (t : Fin (cfgM m hO).N) (k : Fin 1024) (p : Fin 2816) (q : Fin 16) (s : Fin 8192)
    (hq : q.val = t.val % 128 / 8) (hs : s.val = 1024 * chunk (tbl m) (grid0.coords t) + k.val) :
    (iblk m hO c 3 t : S1x1024x2816.Idx → EReal) (ix3 0 k p) = a2 m c q s p := by
  refine congrArg (m ((c : Thread nD τ).loc main_arg2) : S16x8192x2816.Idx → EReal) (funext fun a => Fin.ext ?_)
  refine (Pipeline.Window.rect_emb_val ((cfgM m hO).win 3) t (ix3 0 k p) a rfl).trans ?_
  have e : ((cfgM m hO).win 3).index t = ![(grid0.coords t 1).val / 8, chunk (tbl m) (grid0.coords t), 0] := index_3 (tbl m) (grid0.coords t)
  rw [e, coord_1]
  fin_cases a
  · show t.val % 128 / 8 * 1 + 0 = q.val; omega
  · show chunk (tbl m) (grid0.coords t) * 1024 + k.val = s.val; omega
  · show 0 * 2816 + p.val = p.val; omega

/-- The right factor's scales' block likewise. -/
theorem iblk_4 (t : Fin (cfgM m hO).N) (k : Fin 8) (p : Fin 2816) (q : Fin 16) (s : Fin 64)
    (hq : q.val = t.val % 128 / 8) (hs : s.val = 8 * chunk (tbl m) (grid0.coords t) + k.val) :
    (iblk m hO c 4 t : S1x8x2816.Idx → EReal) (ix3 0 k p) = a3 m c q s p := by
  refine congrArg (m ((c : Thread nD τ).loc main_arg3) : S16x64x2816.Idx → EReal) (funext fun a => Fin.ext ?_)
  refine (Pipeline.Window.rect_emb_val ((cfgM m hO).win 4) t (ix3 0 k p) a rfl).trans ?_
  have e : ((cfgM m hO).win 4).index t = ![(grid0.coords t 1).val / 8, chunk (tbl m) (grid0.coords t), 0] := index_4 (tbl m) (grid0.coords t)
  rw [e, coord_1]
  fin_cases a
  · show t.val % 128 / 8 * 1 + 0 = q.val; omega
  · show chunk (tbl m) (grid0.coords t) * 8 + k.val = s.val; omega
  · show 0 * 2816 + p.val = p.val; omega

end Cert.KernelIdeal.Body

end
-- ==== Proof.KernelIdeal.Sum.lean ====
/- What `KernelIdeal` leaves in its output at the extended reals: at every row and column the initial gradient plus the sum
   of every token's term, given that no length is within 1023 of the largest word. -/
module

public import proofs.«01_k».proof.Proof.KernelIdeal.Blocks
public import Idealize.ShloMosaic.Lib.Pipeline.ValueKit.Geometry

@[expose] public section

set_option maxRecDepth 16384

noncomputable section

namespace Cert.KernelIdeal.Body

open Idealize.ShloMosaic Idealize.ShloMosaic.TcCoe Idealize.ShloMosaic.ValueIdx
open Cert.KernelIdeal.Gen

variable (m : (ℓ : Loc nD τ sig) → Buf (Elt Ideal) ℓ) (c : Dev nD) (hO : Ok m)

/-- A token's term, of the arguments' arrays. -/
abbrev termOf (o : Fin 2560) (p : Fin 2816) (q : Fin 16) (s : Fin 8192) : EReal :=
  Cert.Spec.term (a0 m c) (a1 m c) (a2 m c) (a3 m c) (a5 m c) o p q s

/-- What step `n` adds at row `o`, column `p`: the terms of its chunk's tokens. -/
def gain (o : Fin 2560) (p : Fin 2816) (n : Fin 128) : EReal :=
  ∑ k : Fin 1024, termOf m c o p ⟨n.val / 8, by omega⟩ ⟨1024 * (n.val % 8) + k.val, by omega⟩

/-- `stepOut` at an element, as a sum. -/
theorem stepOut_apply (i : grid0.Coords) (x0 : S1280x2816.Idx → EReal) (x1 : S1x1024x1280.Idx → EReal) (x2 : S1x8x1280.Idx → EReal)
    (x3 : S1x1024x2816.Idx → EReal) (x4 : S1x8x2816.Idx → EReal) (xt0 : TbBuf0 (F := Ideal) c tbM0_0) (prev : S1280x2816.Idx → EReal) (y : S1280x2816.Idx) :
    (stepOut c i x0 x1 x2 x3 x4 xt0 prev : S1280x2816.Idx → EReal) y
      = (if k0_cond1 i = 1#1 then x0 y else prev y)
        + (if k0_cond2 i (lenAt i xt0) = 1#1 then ∑ k : Fin 1024, (xtAt x1 x2 (y 0) k * dyAt (limAt c i xt0) x3 x4 k (y 1) : EReal) else 0) := by
  unfold stepOut
  by_cases h1 : k0_cond1 i = 1#1 <;> by_cases h2 : k0_cond2 i (lenAt i xt0) = 1#1 <;>
    simp only [if_pos, if_neg, h1, h2, not_false_eq_true, if_true, if_false]
  · rfl
  · exact (add_zero (M := EReal) _).symm
  · rfl
  · exact (add_zero (M := EReal) _).symm

/-- One product of a step, given what the blocks hold: a token's term. -/
theorem product_eq (x1 : S1x1024x1280.Idx → EReal) (x2 : S1x8x1280.Idx → EReal) (x3 : S1x1024x2816.Idx → EReal) (x4 : S1x8x2816.Idx → EReal)
    (lim : BitVec 32) (r : Fin 1280) (k : Fin 1024) (p : Fin 2816) (o : Fin 2560) (q : Fin 16) (s : Fin 8192)
    (h1 : x1 (ix3 0 k r) = a0 m c q s o) (h2 : x2 (ix3 0 ⟨k.val / 128, by omega⟩ r) = a1 m c q ⟨s.val / 128, by omega⟩ o)
    (h3 : x3 (ix3 0 k p) = a2 m c q s p) (h4 : x4 (ix3 0 ⟨k.val / 128, by omega⟩ p) = a3 m c q ⟨s.val / 128, by omega⟩ p)
    (hl : (k.val : ℤ) < lim.toInt ↔ (s.val : ℤ) < (a5 m c q).toInt) :
    (xtAt x1 x2 r k * dyAt lim x3 x4 k p : EReal) = termOf m c o p q s := by
  unfold termOf Cert.Spec.term
  by_cases hk : (k.val : ℤ) < lim.toInt
  · rw [if_pos (hl.mp hk), ← h1, ← h2, ← h3, ← h4]
    exact congrArg (xtAt x1 x2 r k * · : EReal → EReal) (if_pos hk)
  · rw [if_neg fun h => hk (hl.mpr h)]
    exact (congrArg (xtAt x1 x2 r k * · : EReal → EReal) (if_neg hk)).trans (mul_zero (M₀ := EReal) _)

/-- What a point makes of the output's buffer: from the initial gradient's block at a band's first point, else from what it
    held, it gains its step's terms. -/
theorem stepOut_eq (hlen : ∀ q, (a5 m c q).toInt ≤ 2147482624) (t : Fin (cfgM m hO).N) (prev : S1280x2816.Idx → EReal)
    (y : S1280x2816.Idx) (o : Fin 2560) (ho : o.val = 1280 * (t.val / 128) + (y 0).val) (n : Fin 128) (hn : n.val = t.val % 128) :
    (stepOut c (grid0.coords t) (iblk m hO c 0 t) (iblk m hO c 1 t) (iblk m hO c 2 t) (iblk m hO c 3 t) (iblk m hO c 4 t) (tbl m 0) prev : S1280x2816.Idx → EReal) y
      = (if t.val % 128 = 0 then a4 m c o (y 1) else prev y) + gain m c o (y 1) n := by
  have hc1 := coord_1 t
  have hnn : (⟨(grid0.coords t 1).val, (grid0.coords t 1).isLt⟩ : Fin 128) = n := Fin.ext (hc1.trans hn.symm)
  obtain ⟨q, hq⟩ : ∃ q : Fin 16, q.val = n.val / 8 := ⟨⟨n.val / 8, by omega⟩, rfl⟩
  have hqq : (⟨n.val / 8, by omega⟩ : Fin 16) = q := Fin.ext hq.symm
  have hL : lenAt (F := Ideal) (grid0.coords t) (tbl m 0) = a5 m c q :=
    (lenAt_eq m c _ (by omega)).trans (congrArg (a5 m c) (Fin.ext (by show (grid0.coords t 1).val / 8 = q.val; omega)))
  have hlive : k0_cond2 (grid0.coords t) (lenAt (F := Ideal) (grid0.coords t) (tbl m 0)) = 1#1 ↔ 1024 * (n.val % 8 : ℕ) < (a5 m c q).toInt := by
    rw [hL]
    exact (iff_of_eq (congrArg (fun z : Fin 128 => Scalar.cmpi .ne (Scalar.extui (Scalar.cmpi .slt (Scalar.muli (Cert.Words.chunkWord (BitVec.ofNat 32 z.val)) 1024#32) (a5 m c q))) 0#32 = 1#1) hnn)).trans
      (Cert.Words.live_iff n _)
  refine (stepOut_apply c (grid0.coords t) _ _ _ _ _ _ prev y).trans (congrArg₂ (· + ·) ?_ ?_)
  · by_cases h0 : t.val % 128 = 0
    · exact (if_pos ((first_iff t).mpr h0)).trans ((iblk_0 m c hO t y o ho).trans (if_pos h0).symm)
    · exact (if_neg fun h => h0 ((first_iff t).mp h)).trans (if_neg h0).symm
  · by_cases h2 : 1024 * (n.val % 8 : ℕ) < (a5 m c q).toInt
    · rw [if_pos (hlive.mpr h2)]
      have hch : chunk (tbl m) (grid0.coords t) = n.val % 8 := by
        unfold chunk
        rw [lenPf_eq, hL]
        exact (congrArg (fun z : Fin 128 => (Cert.Words.fetchWord (BitVec.ofNat 32 z.val) (a5 m c q)).toNat) hnn).trans
          (Cert.Words.fetchWord_live n _ h2 (hlen _))
      have hlim : (limAt c (grid0.coords t) (tbl m 0)).toInt = (a5 m c q).toInt - 1024 * (n.val % 8 : ℕ) := by
        unfold limAt
        rw [hL]
        exact (congrArg (fun z : Fin 128 => (Scalar.subi (a5 m c q) (Scalar.muli (Cert.Words.chunkWord (BitVec.ofNat 32 z.val)) 1024#32)).toInt) hnn).trans
          (Cert.Words.rest_toInt n _ h2)
      unfold gain
      refine Finset.sum_congr rfl fun k _ => ?_
      rw [hqq]
      refine product_eq m c _ _ _ _ _ (y 0) k (y 1) o _ _
        (iblk_1 m c hO t k (y 0) _ _ o ?_ ?_ ho) (iblk_2 m c hO t ⟨k.val / 128, by omega⟩ (y 0) _ _ o ?_ ?_ ho)
        (iblk_3 m c hO t k (y 1) _ _ ?_ ?_) (iblk_4 m c hO t ⟨k.val / 128, by omega⟩ (y 1) _ _ ?_ ?_) ?_
      all_goals try rw [hch]
      all_goals try rw [hlim]
      · exact hq.trans (congrArg (· / 8) hn)
      · exact hq.trans (congrArg (· / 8) hn)
      · show (1024 * (n.val % 8) + k.val) / 128 = 8 * (n.val % 8) + k.val / 128; omega
      · exact hq.trans (congrArg (· / 8) hn)
      · exact hq.trans (congrArg (· / 8) hn)
      · show (1024 * (n.val % 8) + k.val) / 128 = 8 * (n.val % 8) + k.val / 128; omega
      · show _ ↔ ((1024 * (n.val % 8) + k.val : ℕ) : ℤ) < _; omega
    · rw [if_neg fun h => h2 (hlive.mp h)]
      refine (Finset.sum_eq_zero fun k _ => if_neg ?_).symm
      rw [hqq]
      show ¬ ((1024 * (n.val % 8) + k.val : ℕ) : ℤ) < _
      omega

/-- After step `s` of a band the output's buffer holds the initial gradient plus the gains of the steps so far. -/
theorem outsAt_eq (hlen : ∀ q, (a5 m c q).toInt ≤ 2147482624) (y : S1280x2816.Idx) (b : ℕ) (o : Fin 2560) (ho : o.val = 1280 * b + (y 0).val) :
    ∀ (s : ℕ) (hs : s + 1 ≤ 128) (h : 128 * b + s < (cfgM m hO).N),
      (outsAt m hO c (128 * b + s) h : S1280x2816.Idx → EReal) y = a4 m c o (y 1) + ∑ n : Fin (s + 1), gain m c o (y 1) (Fin.castLE hs n)
  | 0, hs, h => by
    have e := outsAt_of m hO c ⟨128 * b + 0, h⟩ (fun _ => (0 : EReal)) fun h' => absurd (by simp only; omega) h'
    rw [show outsAt m hO c (128 * b + 0) h = _ from e,
      stepOut_eq m c hO hlen ⟨128 * b + 0, h⟩ _ y o (by simp only; omega) (Fin.castLE hs 0) (by simp only [Fin.val_castLE, Fin.val_zero]; omega),
      if_pos (by simp only; omega)]
    rw [Fin.sum_univ_one]
  | s + 1, hs, h => by
    have e := outsAt_of m hO c ⟨128 * b + (s + 1), h⟩ (outsAt m hO c (128 * b + s) (by omega)) fun _ => rfl
    rw [show outsAt m hO c (128 * b + (s + 1)) h = _ from e,
      stepOut_eq m c hO hlen ⟨128 * b + (s + 1), h⟩ _ y o (by simp only; omega) ⟨s + 1, by omega⟩ (by simp only; omega),
      if_neg (by simp only; omega), outsAt_eq hlen y b o ho s (by omega) (by omega), Fin.sum_univ_castSucc (n := s + 1)]
    exact add_assoc (G := EReal) _ _ _

/-- The output's array after the run: the initial gradient plus every token's term. -/
def result (x : S2560x2816.Idx) : EReal := a4 m c (x 0) (x 1) + ∑ q, ∑ s, termOf m c (x 0) (x 1) q s

/-- Where the block written back at point `t` puts its element `y`. -/
def outIdx (t : Fin (cfgM m hO).N) (y : S1280x2816.Idx) : S2560x2816.Idx := (((cfgM m hO).win 5).rect t).emb y

theorem outIdx_val (t : Fin (cfgM m hO).N) (y : S1280x2816.Idx) (a : Fin 2) :
    (outIdx m hO t y a).val = (![t.val / 128 * 1280 + (y 0).val, (y 1).val] : Fin 2 → ℕ) a := by
  refine (Pipeline.Window.rect_emb_val ((cfgM m hO).win 5) t y a rfl).trans ?_
  have e : ((cfgM m hO).win 5).index t = ![(grid0.coords t 0).val, 0] := by rw [← band_toNat (grid0.coords t)]; rfl
  rw [e, coord_0]
  fin_cases a
  · rfl
  · show 0 * 2816 + (y 1).val = (y 1).val; omega

/-- What the body leaves at a band's last point is the result on the band. -/
theorem last_eq (hlen : ∀ q, (a5 m c q).toInt ≤ 2147482624) (t : Fin (cfgM m hO).N) (h127 : t.val % 128 = 127) (y : S1280x2816.Idx) :
    (outsAt m hO c t.val t.isLt : S1280x2816.Idx → EReal) y = result m c (outIdx m hO t y) := by
  have hy0 : (y 0).val < 1280 := (y 0).isLt
  have e0 : (outIdx m hO t y 0).val = t.val / 128 * 1280 + (y 0).val := outIdx_val m hO t y 0
  have e1 : outIdx m hO t y 1 = y 1 := Fin.ext (outIdx_val m hO t y 1)
  have hv : ∀ (n : ℕ) (h : n < (cfgM m hO).N), n = t.val → outsAt m hO c n h = outsAt m hO c t.val t.isLt := by
    intro n h e; subst e; rfl
  have hlt := t.isLt
  rw [← hv (128 * (t.val / 128) + 127) (by omega) (by omega)]
  refine (outsAt_eq m c hO hlen y (t.val / 128) (outIdx m hO t y 0) (by omega) 127 (by omega) (by omega)).trans ?_
  unfold result
  rw [e1]
  exact congrArg (a4 m c _ _ + · : EReal → EReal) (Cert.Spec.sum_steps (termOf m c _ _))

/-- Every element of the output is in the block a band's last point writes back. -/
theorem cover (i : S2560x2816.Idx) : ∃ t : Fin (cfgM m hO).N, t.val % 128 = 127 ∧ ∃ y, outIdx m hO t y = i := by
  have h0 : (i 0).val < 2560 := (i 0).isLt
  have hN : (cfgM m hO).N = 256 := N_0
  refine ⟨⟨128 * ((i 0).val / 1280) + 127, by omega⟩, by show (128 * ((i 0).val / 1280) + 127) % 128 = 127; omega,
    ix2 ⟨(i 0).val % 1280, by omega⟩ (i 1), funext fun a => Fin.ext ((outIdx_val m hO _ _ a).trans ?_)⟩
  fin_cases a
  · show (128 * ((i 0).val / 1280) + 127) / 128 * 1280 + (i 0).val % 1280 = (i 0).val; omega
  · rfl

/-- The output's array ends at the result. -/
theorem final_eq (hlen : ∀ q, (a5 m c q).toInt ≤ 2147482624) :
    (dats m hO 0 c).arrAt 5 (cfgM m hO).N = (result m c : S2560x2816.Idx → EReal) := by
  refine (dats m hO 0 c).arrAt_eq_of_emb 5 _ (fun t hf (y : S1280x2816.Idx) => ?_) fun (i : S2560x2816.Idx) => ?_
  · exact (congrFun (after0_5 m hO c t) y).trans (last_eq m c hO hlen t ((flush0_5 (adm m hO) t).mp hf) y)
  · obtain ⟨t, ht, y, rfl⟩ := cover m hO i
    exact ⟨t, (flush0_5 (adm m hO) t).mpr ht, View.emb_mem_set _ _⟩

end Cert.KernelIdeal.Body

end
-- ==== Proof.RefTail.lean ====
/- The reference's lines after its one call, at the extended reals: what they leave in the result, as one term over what the
   call left and the arguments, and that term element by element. -/
module

public import proofs.«01_k».proof.Proof.Spec
public import proofs.«01_k».proof.Proof.Gen.ReferenceIdeal.Frame
public import Idealize.ShloMosaic.PureOps.Ideal.Laws
public import Idealize.ShloMosaic.Lib.IdealHost
public import Idealize.ShloMosaic.Lib.Pipeline.Value
public import Idealize.ShloMosaic.Lib.ValueIdxCore
public import Idealize.ShloMosaic.Lib.StableHlo.RunRead

@[expose] public section

set_option maxRecDepth 16384

noncomputable section

namespace Cert.ReferenceIdeal.Value

open Idealize.ShloMosaic Idealize.ShloMosaic.TcCoe Idealize.ShloMosaic.ValueIdx
open Cert.ReferenceIdeal.Gen

/-- The left factor scaled: the tokens in groups of 128, each group times its own row of scales. -/
def left (x : Vec Ideal S16x8192x2560 .bf16) (xs : Vec Ideal S16x64x2560 .f32) : Vec Ideal S16x64x128x2560 .bf16 :=
  mulf (F := Ideal) (φ := .bf16) (shapeCast S16x64x128x2560 x shapeCasts_S16x8192x2560_S16x64x128x2560)
    (broadcastInDim S16x64x128x2560 ![0, 1, 2, 3] bcast_S16x64x1x2560_S16x64x128x2560_0_1_2_3
      (broadcastInDim S16x64x1x2560 ![0, 1, 3] bcast_S16x64x2560_S16x64x1x2560_0_1_3 (truncf FTy.bf16 xs bitsLt_bf16_f32)))

/-- The right factor scaled, the same way. -/
def right (y : Vec Ideal S16x8192x2816 .bf16) (ys : Vec Ideal S16x64x2816 .f32) : Vec Ideal S16x64x128x2816 .bf16 :=
  mulf (F := Ideal) (φ := .bf16) (shapeCast S16x64x128x2816 y shapeCasts_S16x8192x2816_S16x64x128x2816)
    (broadcastInDim S16x64x128x2816 ![0, 1, 2, 3] bcast_S16x64x1x2816_S16x64x128x2816_0_1_2_3
      (broadcastInDim S16x64x1x2816 ![0, 1, 3] bcast_S16x64x2816_S16x64x1x2816_0_1_3 (truncf FTy.bf16 ys bitsLt_bf16_f32)))

/-- Which tokens lie before the end of their sequence. -/
def live (len : IVec S16 32) : IVec S16x64x128 1 :=
  cmpi CmpIPredicate.slt
    (broadcastInDim S16x64x128 ![0, 1, 2] bcast_S1x64x128_S16x64x128_0_1_2
      (broadcastInDim S1x64x128 ![1, 2] bcast_S64x128_S1x64x128_1_2 (shapeCast S64x128 (iotaInDim S8192 32 0) shapeCasts_S8192_S64x128)))
    (broadcastInDim S16x64x128 ![0, 1, 2] bcast_S16x1x1_S16x64x128_0_1_2 (broadcastInDim S16x1x1 ![0] bcast_S16_S16x1x1_0 len))

/-- The right factor with the tokens past the end of their sequence set to zero. -/
def masked (y : Vec Ideal S16x8192x2816 .bf16) (ys : Vec Ideal S16x64x2816 .f32) (len : IVec S16 32) : Vec Ideal S16x64x128x2816 .bf16 :=
  select
    (broadcastInDim S16x64x128x2816 ![0, 1, 2, 3] bcast_S16x64x128x1_S16x64x128x2816_0_1_2_3
      (broadcastInDim S16x64x128x1 ![0, 1, 2] bcast_S16x64x128_S16x64x128x1_0_1_2 (live len)))
    (right y ys)
    (broadcastInDim S16x64x128x2816 ![] bcast_S_S16x64x128x2816 (constant (F := Ideal) S_ FTy.bf16 0#16))

/-- The result: the initial gradient plus the product of the two factors over all tokens. -/
def whole (x : Vec Ideal S16x8192x2560 .bf16) (xs : Vec Ideal S16x64x2560 .f32) (y : Vec Ideal S16x8192x2816 .bf16)
    (ys : Vec Ideal S16x64x2816 .f32) (g : Vec Ideal S2560x2816 .f32) (len : IVec S16 32) : Vec Ideal S2560x2816 .f32 :=
  addf (F := Ideal) (φ := .f32) g
    (Host.dotGeneral (F := Ideal) (φ₁ := .bf16) (φ₂ := .bf16) dot_S16x64x128x2560_S16x64x128x2816_S2560x2816_012_012_3_3_n_n none
      (left x xs) (masked y ys len))

/-- The reference's lines leave `whole` of the two widened factors and the arguments in the result. -/
theorem tail_eq (W : Valuation τ sig (Elt Ideal)) :
    StableHlo.after (List.flatten [hostOps1, hostOps1_1, hostOps1_2]) W (Proc.devRef .tc main_v21)
      = whole (W (Proc.devRef .tc main_v0_0)) (W (Proc.devRef .tc main_arg1)) (W (Proc.devRef .tc main_v0_1))
          (W (Proc.devRef .tc main_arg3)) (W (Proc.devRef .tc main_arg4)) (W (Proc.devRef .tc main_arg5)) := by
  simp only [List.flatten_cons, List.flatten_nil, List.append_nil]
  after_reads_simp
  simp -implicitDefEqProofs only [StableHlo.TRef.toBuf, StableHlo.TRef.ofBuf, cast_cast, cast_eq]
  rfl

/-- The scaled left factor at token `128 g + t` of sequence `q`, column `o`: the element times its group's scale. -/
theorem left_apply (x : S16x8192x2560.Idx → EReal) (xs : S16x64x2560.Idx → EReal) (q : Fin 16) (g : Fin 64) (t : Fin 128) (o : Fin 2560) :
    left x xs (ix4 q g t o) = x (ix3 q ⟨128 * g.val + t.val, by omega⟩ o) * xs (ix3 q g o) := by
  refine congrArg₂ (fun a b : EReal => a * b) ?_ ?_
  · refine shapeCast_apply x _ _ _ ?_
    rw [Shape.rowMajor_val_three, Shape.rowMajor_val_four]
    show (q.val * 8192 + (128 * g.val + t.val)) * 2560 + o.val = ((q.val * 64 + g.val) * 128 + t.val) * 2560 + o.val
    omega
  · refine (broadcastInDim_apply _ _ _ _ (ix4 q g 0 o) ?_).trans ((broadcastInDim_apply _ _ _ _ (ix3 q g o) ?_).trans rfl)
    · intro a; fin_cases a <;> rfl
    · intro a; fin_cases a <;> rfl

/-- The scaled right factor likewise. -/
theorem right_apply (x : S16x8192x2816.Idx → EReal) (xs : S16x64x2816.Idx → EReal) (q : Fin 16) (g : Fin 64) (t : Fin 128) (o : Fin 2816) :
    right x xs (ix4 q g t o) = x (ix3 q ⟨128 * g.val + t.val, by omega⟩ o) * xs (ix3 q g o) := by
  refine congrArg₂ (fun a b : EReal => a * b) ?_ ?_
  · refine shapeCast_apply x _ _ _ ?_
    rw [Shape.rowMajor_val_three, Shape.rowMajor_val_four]
    show (q.val * 8192 + (128 * g.val + t.val)) * 2816 + o.val = ((q.val * 64 + g.val) * 128 + t.val) * 2816 + o.val
    omega
  · refine (broadcastInDim_apply _ _ _ _ (ix4 q g 0 o) ?_).trans ((broadcastInDim_apply _ _ _ _ (ix3 q g o) ?_).trans rfl)
    · intro a; fin_cases a <;> rfl
    · intro a; fin_cases a <;> rfl

/-- The mask at a token: whether its number is below the sequence's length. -/
theorem live_apply (len : S16.Idx → BitVec 32) (q : Fin 16) (g : Fin 64) (t : Fin 128) :
    live len (ix3 q g t) = (BitVec.ofBool ((BitVec.ofNat 32 (128 * g.val + t.val)).slt (len (ix1 q)))) := by
  refine congrArg₂ (fun a b : BitVec 32 => BitVec.ofBool (a.slt b)) ?_ ?_
  · refine (broadcastInDim_apply _ _ _ _ (ix3 0 g t) ?_).trans ((broadcastInDim_apply _ _ _ _ (ix2 g t) ?_).trans
      ((shapeCast_apply _ _ _ (ix1 (⟨128 * g.val + t.val, by omega⟩ : Fin 8192)) ?_).trans rfl))
    · intro a; fin_cases a <;> rfl
    · intro a; fin_cases a <;> rfl
    · rw [Shape.rowMajor_val_one, Shape.rowMajor_val_two]
      show 128 * g.val + t.val = g.val * 128 + t.val
      omega
  · refine (broadcastInDim_apply _ _ _ _ (ix3 q 0 0) ?_).trans (broadcastInDim_apply _ _ _ _ (ix1 q) ?_)
    · intro a; fin_cases a <;> rfl
    · intro a; fin_cases a <;> rfl

/-- The index of a shape of three axes with the given coordinates, -/
def idx3 {n : Fin 3 → ℕ} (a : Fin (n 0)) (b : Fin (n 1)) (c : Fin (n 2)) : (⟨3, n⟩ : Shape).Idx :=
  fun i => match i with | ⟨0, _⟩ => a | ⟨1, _⟩ => b | ⟨2, _⟩ => c

/-- and a sum over such indices, coordinate by coordinate. -/
theorem sum_idx3 {n : Fin 3 → ℕ} (f : (⟨3, n⟩ : Shape).Idx → EReal) :
    ∑ i, f i = ∑ a : Fin (n 0), ∑ b : Fin (n 1), ∑ c : Fin (n 2), f (idx3 a b c) := by
  rw [← Fintype.sum_equiv ⟨fun p : Fin (n 0) × Fin (n 1) × Fin (n 2) => idx3 p.1 p.2.1 p.2.2, fun i => (i 0, i 1, i 2), fun _ => rfl,
    fun i => by funext a; match a with | ⟨0, _⟩ => rfl | ⟨1, _⟩ => rfl | ⟨2, _⟩ => rfl⟩ (fun p => f (idx3 p.1 p.2.1 p.2.2)) f fun _ => rfl]
  simp only [Fintype.sum_prod_type]

/-- The product's contraction is the triple sum over sequences, groups and tokens of a group. -/
theorem dot_apply (L : S16x64x128x2560.Idx → EReal) (R : S16x64x128x2816.Idx → EReal) (o : Fin 2560) (p : Fin 2816) :
    Host.dotGeneral (F := Ideal) (φ₁ := .bf16) (φ₂ := .bf16) dot_S16x64x128x2560_S16x64x128x2816_S2560x2816_012_012_3_3_n_n none L R (ix2 o p)
      = ∑ q : Fin 16, ∑ g : Fin 64, ∑ t : Fin 128, L (ix4 q g t o) * R (ix4 q g t p) := by
  simp only [Host.dotGeneral]
  rw [Ideal.dotGeneral_apply]
  refine (sum_idx3 (n := dot_S16x64x128x2560_S16x64x128x2816_S2560x2816_012_012_3_3_n_n.contr.size) _).trans ?_
  refine Finset.sum_congr rfl fun q _ => Finset.sum_congr rfl fun g _ => Finset.sum_congr rfl fun t _ => ?_
  refine congrArg₂ (fun a b : EReal => a * b) (congrArg L ?_) (congrArg R ?_)
  · funext a; apply Fin.ext; fin_cases a <;> rfl
  · funext a; apply Fin.ext; fin_cases a <;> rfl

/-- The masked right factor at a token: the scaled element before the sequence's end, zero from there on. -/
theorem masked_apply (y : S16x8192x2816.Idx → EReal) (ys : S16x64x2816.Idx → EReal) (len : S16.Idx → BitVec 32)
    (q : Fin 16) (g : Fin 64) (t : Fin 128) (p : Fin 2816) :
    masked y ys len (ix4 q g t p)
      = if (128 * g.val + t.val : ℤ) < (len (ix1 q)).toInt then
          y (ix3 q ⟨128 * g.val + t.val, by omega⟩ p) * ys (ix3 q g p) else (0 : EReal) := by
  have hm : (broadcastInDim S16x64x128x2816 ![0, 1, 2, 3] bcast_S16x64x128x1_S16x64x128x2816_0_1_2_3
      (broadcastInDim S16x64x128x1 ![0, 1, 2] bcast_S16x64x128_S16x64x128x1_0_1_2 (live len))) (ix4 q g t p)
      = BitVec.ofBool ((BitVec.ofNat 32 (128 * g.val + t.val)).slt (len (ix1 q))) := by
    refine (broadcastInDim_apply _ _ _ _ (ix4 q g t 0) ?_).trans ((broadcastInDim_apply _ _ _ _ (ix3 q g t) ?_).trans
      (live_apply len q g t))
    · intro a; fin_cases a <;> rfl
    · intro a; fin_cases a <;> rfl
  have hz : (broadcastInDim S16x64x128x2816 ![] bcast_S_S16x64x128x2816 (constant (F := Ideal) S_ FTy.bf16 0#16)) (ix4 q g t p) = (0 : EReal) :=
    Ideal.ofBits_zero_bf16
  have hi : (BitVec.ofNat 32 (128 * g.val + t.val)).toInt = (128 * g.val + t.val : ℤ) := by
    rw [BitVec.toInt_eq_toNat_of_lt]
    · rw [BitVec.toNat_ofNat]; push_cast; omega
    · rw [BitVec.toNat_ofNat]; omega
  unfold masked
  rw [select_apply, hm, hz, right_apply]
  simp only [BitVec.slt, hi]
  by_cases h : (128 * g.val + t.val : ℤ) < (len (ix1 q)).toInt
  · simp only [h, decide_true, if_true]; rfl
  · simp only [h, decide_false, if_false]; rfl

/-- The reference's result at one element: the initial gradient there plus all tokens' terms. -/
theorem whole_apply (x : S16x8192x2560.Idx → EReal) (xs : S16x64x2560.Idx → EReal) (y : S16x8192x2816.Idx → EReal)
    (ys : S16x64x2816.Idx → EReal) (g : S2560x2816.Idx → EReal) (len : S16.Idx → BitVec 32) (o : Fin 2560) (p : Fin 2816) :
    whole x xs y ys g len (ix2 o p)
      = g (ix2 o p) + ∑ q, ∑ s, Cert.Spec.term (fun q s o => x (ix3 q s o)) (fun q k o => xs (ix3 q k o)) (fun q s p => y (ix3 q s p))
          (fun q k p => ys (ix3 q k p)) (fun q => len (ix1 q)) o p q s := by
  refine congrArg (fun a : EReal => g (ix2 o p) + a) ?_
  refine (dot_apply (left x xs) (masked y ys len) o p).trans ?_
  rw [← Cert.Spec.sum_groups]
  refine Finset.sum_congr rfl fun q _ => Finset.sum_congr rfl fun k _ => Finset.sum_congr rfl fun t _ => ?_
  rw [left_apply, masked_apply]
  unfold Cert.Spec.term
  have e : (⟨(128 * k.val + t.val) / 128, by omega⟩ : Fin 64) = k := Fin.ext (show (128 * k.val + t.val) / 128 = k.val by omega)
  simp only [e]
  push_cast
  split
  · rfl
  · exact mul_zero (M₀ := EReal) _

/-- The result's array: the initial gradient plus all tokens' terms, of the six arguments' arrays. -/
def valueOf (x : S16x8192x2560.Idx → EReal) (xs : S16x64x2560.Idx → EReal) (y : S16x8192x2816.Idx → EReal)
    (ys : S16x64x2816.Idx → EReal) (g : S2560x2816.Idx → EReal) (len : S16.Idx → BitVec 32) (j : S2560x2816.Idx) : EReal :=
  g (ix2 (j 0) (j 1)) + ∑ q, ∑ s, Cert.Spec.term (fun q s o => x (ix3 q s o)) (fun q k o => xs (ix3 q k o))
    (fun q s p => y (ix3 q s p)) (fun q k p => ys (ix3 q k p)) (fun q => len (ix1 q)) (j 0) (j 1) q s

/-- The lines after the call leave it in the result. -/
theorem whole_eq (x : S16x8192x2560.Idx → EReal) (xs : S16x64x2560.Idx → EReal) (y : S16x8192x2816.Idx → EReal)
    (ys : S16x64x2816.Idx → EReal) (g : S2560x2816.Idx → EReal) (len : S16.Idx → BitVec 32) :
    (whole x xs y ys g len : S2560x2816.Idx → EReal) = valueOf x xs y ys g len := by
  funext j
  exact (congrArg (whole x xs y ys g len : S2560x2816.Idx → EReal) (eq_ix2 j)).trans (whole_apply x xs y ys g len (j 0) (j 1))

/-- Equal arguments leave equal results. -/
theorem whole_congr {x x' : Vec Ideal S16x8192x2560 .bf16} {xs xs' : Vec Ideal S16x64x2560 .f32} {y y' : Vec Ideal S16x8192x2816 .bf16}
    {ys ys' : Vec Ideal S16x64x2816 .f32} {g g' : Vec Ideal S2560x2816 .f32} {len len' : IVec S16 32}
    (h0 : x = x') (h1 : xs = xs') (h2 : y = y') (h3 : ys = ys') (h4 : g = g') (h5 : len = len') :
    whole x xs y ys g len = whole x' xs' y' ys' g' len' := by
  subst h0 h1 h2 h3 h4 h5; rfl

end Cert.ReferenceIdeal.Value

end
-- ==== Proof.Reference.lean ====
/- What the reference ends with, at the extended reals: at each element of its result, the initial gradient there plus all
   tokens' terms, of the arguments as they were. -/
module

public import proofs.«01_k».proof.Proof.RefTail
public import Idealize.ShloMosaic.Lib.Pipeline.ValueKit

@[expose] public section

set_option maxRecDepth 16384

noncomputable section

namespace Cert.ReferenceIdeal.Value

open Idealize.SL.Sem
open Idealize.ShloMosaic Idealize.ShloMosaic.TcCoe Idealize.ShloMosaic.ValueIdx
open Cert.ReferenceIdeal.Gen

variable (m : (ℓ : Loc nD τ sig) → Buf (Elt Ideal) ℓ) (ρ : Dev nD → PrngReg) (c : Dev nD)

/-! ## The widened factors -/

theorem zeros3 : (![0, 0, 0] : Fin 3 → ℕ) = fun _ => 0 := by funext a; fin_cases a <;> rfl

/-- The one call leaves the left factor in its first result's buffer, -/
theorem out_left (x : S16x8192x2560.Idx → EReal) (y : S16x8192x2816.Idx → EReal) :
    (out0_2 (F := Ideal) x y : S16x8192x2560.Idx → EReal) = x := by
  unfold out0_2
  refine (View.canon_unit_zero zeros3 _ _).trans ?_
  exact View.ld_unit_zero (Val := Elt Ideal) (e := .fp8e4m3) zeros3 _ x

/-- and the right factor in its second's. -/
theorem out_right (x : S16x8192x2560.Idx → EReal) (y : S16x8192x2816.Idx → EReal) :
    (out0_3 (F := Ideal) x y : S16x8192x2816.Idx → EReal) = y := by
  unfold out0_3
  refine (View.canon_unit_zero zeros3 _ _).trans ?_
  exact View.ld_unit_zero (Val := Elt Ideal) (e := .fp8e5m2) zeros3 _ y

/-- The call's one block of the left factor is the whole array, -/
theorem iblk_left (t : Fin cfg0.N) (y : S16x8192x2560.Idx) :
    (iblk m c 0 t : S16x8192x2560.Idx → EReal) y = (m ((c : Thread nD τ).loc main_arg0) : S16x8192x2560.Idx → EReal) y := by
  refine congrArg (m ((c : Thread nD τ).loc main_arg0) : S16x8192x2560.Idx → EReal) (funext fun a => Fin.ext ?_)
  refine (Pipeline.Window.rect_emb_val (cfg0.win 0) t y a rfl).trans ?_
  show 0 * _ + (y a).val = (y a).val
  rw [Nat.zero_mul, Nat.zero_add]

/-- and so is the right factor's. -/
theorem iblk_right (t : Fin cfg0.N) (y : S16x8192x2816.Idx) :
    (iblk m c 1 t : S16x8192x2816.Idx → EReal) y = (m ((c : Thread nD τ).loc main_arg2) : S16x8192x2816.Idx → EReal) y := by
  refine congrArg (m ((c : Thread nD τ).loc main_arg2) : S16x8192x2816.Idx → EReal) (funext fun a => Fin.ext ?_)
  refine (Pipeline.Window.rect_emb_val (cfg0.win 1) t y a rfl).trans ?_
  show 0 * _ + (y a).val = (y a).val
  rw [Nat.zero_mul, Nat.zero_add]

/-- After the call the first widened array is the left argument, -/
theorem arr_left : ((dats m 0 c).arrAt 2 cfg0.N : S16x8192x2560.Idx → EReal) = m ((c : Thread nD τ).loc main_arg0) := by
  refine Pipeline.Dat.arrAt_eq_of_after_last (dat := dats m 0 c) 2 ⟨0, by decide⟩ (by decide +kernel) _ fun j => ?_
  refine (congrFun (after0_2 m c _) _).trans ?_
  refine (congrFun (out_left _ _) _).trans ?_
  exact iblk_left m c _ _

/-- and the second the right argument. -/
theorem arr_right : ((dats m 0 c).arrAt 3 cfg0.N : S16x8192x2816.Idx → EReal) = m ((c : Thread nD τ).loc main_arg2) := by
  refine Pipeline.Dat.arrAt_eq_of_after_last (dat := dats m 0 c) 3 ⟨0, by decide⟩ (by decide +kernel) _ fun j => ?_
  refine (congrFun (after0_3 m c _) _).trans ?_
  refine (congrFun (out_right _ _) _).trans ?_
  exact iblk_right m c _ _

/-! ## The result -/

/-- After the whole program the result's buffer holds it, of the arguments as launched. -/
theorem result_eq :
    (Pipeline.afterTail₀ cfgs (dats m) 0 (V0 m) [hostOps1, hostOps1_1, hostOps1_2] c main_v21 : S2560x2816.Idx → EReal)
      = valueOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine Eq.trans ?_ (whole_eq _ _ _ _ _ _)
  unfold Pipeline.afterTail₀
  refine (tail_eq _).trans (whole_congr ?_ ?_ ?_ ?_ ?_ ?_)
  · exact (Pipeline.withArrays_arr spec0 (by decide) c (V0 m c) (fun w => (dats m 0 c).arrAt w cfg0.N) 2).trans (arr_left m c)
  · exact (Pipeline.withArrays_of_ne spec0 c (V0 m c) _ main_arg1 (by decide)).trans (V_main_arg1 m c)
  · exact (Pipeline.withArrays_arr spec0 (by decide) c (V0 m c) (fun w => (dats m 0 c).arrAt w cfg0.N) 3).trans (arr_right m c)
  · exact (Pipeline.withArrays_of_ne spec0 c (V0 m c) _ main_arg3 (by decide)).trans (V_main_arg3 m c)
  · exact (Pipeline.withArrays_of_ne spec0 c (V0 m c) _ main_arg4 (by decide)).trans (V_main_arg4 m c)
  · exact (Pipeline.withArrays_of_ne spec0 c (V0 m c) _ main_arg5 (by decide)).trans (V_main_arg5 m c)

/-- The reference terminates with its result's buffer at that array and its arguments unchanged. -/
theorem ends : θ_run defs (onTc (τ := τ) (main (F := Ideal))) ⟨m, fun _ => 0, ρ⟩ (fun r => ∀ c : Dev nD,
      r.2.mem ((c.tc : Thread nD τ).loc main_v21)
        = valueOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨(((h.1 : Pipeline.FramePost _ _ _ _ _) c).2 main_v21 (Pipeline.mem_restRefs_of main_v21 (by decide) (by decide))).trans
      (result_eq m c), h.2 c⟩)
    (θ_run_and (run_main m ρ) (unchanged m ρ))

end Cert.ReferenceIdeal.Value

end
-- ==== Proof.lean ====
/- The claims about the grouped weight-gradient kernel: the programs' frames, that the ideal program is the kernel's own, and
   that at the extended reals the kernel and the reference end with equal results whenever every length fits. -/
module

public import proofs.«01_k».proof.Defs
public import proofs.«01_k».proof.Proof.Kernel.Frame
public import proofs.«01_k».proof.Proof.Kernel.Tables
public import proofs.«01_k».proof.Proof.KernelIdeal.Sum
public import proofs.«01_k».proof.Proof.Reference
public import proofs.«01_k».proof.Proof.Gen.ReferenceIdeal.Frame
public import proofs.«01_k».proof.Proof.Gen.Pre_lengths_fit
public import Idealize.ShloMosaic.Adequacy
public import Idealize.ShloMosaic.Init

@[expose] public section

noncomputable section

namespace Cert.Proof

open Idealize.ShloMosaic Idealize.ShloMosaic.TcCoe Idealize.SL.Sem

/-- From any memory with zero counters the kernel terminates, its arguments unchanged and its counters zero. -/
theorem quiescent_Kernel : Cert.quiescent_Kernel (hKernel := Cert.Kernel.Gen.facts) :=
  fun m ρ _ => Cert.Kernel.Body.frame m ρ (Cert.Kernel.Body.ok m)

/-- The same of the kernel with every float an extended real, -/
theorem quiescent_KernelIdeal : Cert.quiescent_KernelIdeal (hKernelIdeal := Cert.KernelIdeal.Gen.facts) :=
  fun m ρ _ => Cert.KernelIdeal.Body.frame m ρ (Cert.KernelIdeal.Body.ok m)

/-- and so in particular when every length fits. -/
theorem quiescent_KernelIdeal_pre_lengths_fit : Cert.quiescent_KernelIdeal_pre_lengths_fit
    (hKernelIdeal := Cert.KernelIdeal.Gen.facts) (hPre_lengths_fit := Cert.Pre_lengths_fit.Gen.facts) :=
  fun m ρ _ => Cert.KernelIdeal.Body.frame m ρ (Cert.KernelIdeal.Body.ok m)

/-- The same of the reference, -/
theorem quiescent_ReferenceIdeal : Cert.quiescent_ReferenceIdeal (hReferenceIdeal := Cert.ReferenceIdeal.Gen.facts) :=
  fun m ρ _ => Cert.ReferenceIdeal.Gen.frame m ρ

/-- and so in particular when every length fits. -/
theorem quiescent_ReferenceIdeal_pre_lengths_fit : Cert.quiescent_ReferenceIdeal_pre_lengths_fit
    (hReferenceIdeal := Cert.ReferenceIdeal.Gen.facts) (hPre_lengths_fit := Cert.Pre_lengths_fit.Gen.facts) :=
  fun m ρ _ => Cert.ReferenceIdeal.Gen.frame m ρ

/-- The precondition at one sequence: its length, as a signed word, is at most 2147482624. -/
theorem fits (m : (ℓ : Loc Cert.KernelIdeal.nD Cert.KernelIdeal.τ Cert.KernelIdeal.sig) → Buf (Elt Ideal) ℓ)
    (h : Cert.Pre_KernelIdeal_lengths_fit (hPre_lengths_fit := Cert.Pre_lengths_fit.Gen.facts) m) (c : Dev Cert.KernelIdeal.nD) (q : Fin 16) :
    (Cert.KernelIdeal.Body.a5 m c q).toInt ≤ 2147482624 := by
  have e : BitVec.ofBool ((Cert.KernelIdeal.Body.a5 m c q).sle 2147482624#32) = 1#1 := congrFun (h c) (ValueIdx.ix1 q)
  have e' : (Cert.KernelIdeal.Body.a5 m c q).sle 2147482624#32 = true := by
    cases hb : (Cert.KernelIdeal.Body.a5 m c q).sle 2147482624#32
    · rw [hb] at e; exact absurd e (by decide)
    · rfl
  exact of_decide_eq_true e'

/-- The two programs' results are one function of the six arguments. -/
theorem values_agree (m : (ℓ : Loc Cert.KernelIdeal.nD Cert.KernelIdeal.τ Cert.KernelIdeal.sig) → Buf (Elt Ideal) ℓ) (c : Dev Cert.KernelIdeal.nD) :
    Cert.ReferenceIdeal.Value.valueOf (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
      = Cert.KernelIdeal.Body.result m c := rfl

/-- At the extended reals, from memories that agree on the arguments and whose lengths fit, the kernel and the reference both
    terminate, their results equal element by element and their arguments unchanged. -/
theorem algebraic : Cert.algebraic_KernelIdeal_ReferenceIdeal_pre_lengths_fit (hKernelIdeal := Cert.KernelIdeal.Gen.facts)
    (hReferenceIdeal := Cert.ReferenceIdeal.Gen.facts) (hPre_lengths_fit := Cert.Pre_lengths_fit.Gen.facts) := by
  intro m g m' g' hpre hargs
  refine ⟨fun c => Cert.KernelIdeal.Body.result m c, ?_, ?_⟩
  · exact (θ_run Cert.KernelIdeal.defs _ _).mono
      (fun _ h c => ⟨(h c).1.trans (Cert.KernelIdeal.Body.final_eq m c (Cert.KernelIdeal.Body.ok m) (fits m hpre c)), (h c).2⟩)
      (Cert.KernelIdeal.Body.ends m g (Cert.KernelIdeal.Body.ok m))
  · refine (θ_run Cert.ReferenceIdeal.defs _ _).mono (fun _ h c => ⟨(h c).1.trans ?_, (h c).2⟩) (Cert.ReferenceIdeal.Value.ends m' g')
    obtain ⟨h0, h1, h2, h3, h4, h5⟩ := hargs c
    refine Eq.trans ?_ (values_agree m c)
    rw [h0, h1, h2, h3, h4, h5]

theorem claim : Cert.Claim := ⟨Cert.Kernel.Gen.facts, Cert.KernelIdeal.Gen.facts, Cert.ReferenceIdeal.Gen.facts,
  Cert.Pre_lengths_fit.Gen.facts, quiescent_Kernel, quiescent_KernelIdeal, quiescent_KernelIdeal_pre_lengths_fit,
  quiescent_ReferenceIdeal, quiescent_ReferenceIdeal_pre_lengths_fit, trivial, algebraic⟩

end Cert.Proof

end
